-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![4096, 1]⟩ ⟨2, ![8192, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32x128 : Shape := ⟨2, ![32, 128]⟩
abbrev S512x1024 : Shape := ⟨2, ![512, 1024]⟩
abbrev S2x32x128 : Shape := ⟨3, ![2, 32, 128]⟩
abbrev S2 : Shape := ⟨1, ![2]⟩
abbrev S_ : Shape := ⟨0, ![]⟩
abbrev S512 : Shape := ⟨1, ![512]⟩
abbrev S4x128 : Shape := ⟨2, ![4, 128]⟩
abbrev S1x4x128 : Shape := ⟨3, ![1, 4, 128]⟩
abbrev S1 : Shape := ⟨1, ![1]⟩
abbrev S1x16x128 : Shape := ⟨3, ![1, 16, 128]⟩
abbrev S16x128 : Shape := ⟨2, ![16, 128]⟩
abbrev S1x32x128 : Shape := ⟨3, ![1, 32, 128]⟩
abbrev S4096x1 : Shape := ⟨2, ![4096, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S32x128, .f32⟩
  | .hbm, ⟨2, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S32x128, .f32⟩
  | .local _ .vmem, ⟨3, _⟩ => ⟨S2x32x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k0_dev1 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v26 : BitVec 32 := Scalar.muli v2 c2_i32_10
  let v27 : BitVec 32 := Scalar.addi c0_i32_11 v26
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v28 : BitVec 32 := Scalar.muli v6 c1_i32_12
  let v29 : BitVec 32 := Scalar.addi v27 v28
  v29.toNat
def k0_off1 (i : grid0.Coords) : Fin 3 → Nat :=
  let c0_5 : Index := 0#32
  let arg0 : BitVec 32 := BitVec.ofNat 32 (i 0).val
  let c4_i32 : BitVec 32 := 4#32
  let v14 : BitVec 32 := Scalar.muli arg0 c4_i32
  let v15 : Index := Scalar.indexCast v14
  let c0_6 : Index := 0#32
  ![0, v15.toNat, 0]
def k0_cond2 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_7 : BitVec 32 := 0#32
  let v21 : BitVec 1 := Scalar.cmpi .ne v20 c0_i32_7
  v21

def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v25 : BitVec 32 := Scalar.muli v2 c2_i32_13
  let v26 : BitVec 32 := Scalar.addi c0_i32_14 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v27 : BitVec 32 := Scalar.muli v6 c1_i32_15
  let v28 : BitVec 32 := Scalar.addi v26 v27
  v28.toNat
def k0_cond3 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32_8 : BitVec 32 := 0#32
  let v24 : BitVec 1 := Scalar.cmpi .ne v23 c0_i32_8
  v24

def k0_dev3 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v25 : BitVec 32 := Scalar.muli v2 c2_i32_13
  let v26 : BitVec 32 := Scalar.addi c0_i32_14 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v27 : BitVec 32 := Scalar.muli v6 c1_i32_15
  let v28 : BitVec 32 := Scalar.addi v26 v27
  v28.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S8192, .f32⟩
  | .hbm, ⟨3, _⟩ => ⟨S8192x1, .f32⟩
  | .hbm, ⟨4, _⟩ => ⟨S_, .f32⟩
  | .hbm, ⟨5, _⟩ => ⟨S8192x1, .f32⟩
  | .hbm, ⟨6, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KernelIdeal.Comm.lean ====
/-
# `Comm`: the exchange buffer of the kernel, cut into the pieces the protocol moves

The kernel keeps a scratch buffer of shape [2, 32, 128]. Slab 0 collects the device's own 4096 row sums, four rows of
128 per grid point; slab 1 receives the partner's. Each slab moves in two halves of sixteen rows. This module names the
partner device, the four halves as sets of indices, what each index holds at the end (`sums`), and proves what a store of
one grid point and the landing of one copy do to the buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Regions
public import Idealize.ShloMosaic.Lib.Pipeline.RegionTalk
public import Idealize.ShloMosaic.Lib.Pipeline.Kit
public import Idealize.ShloMosaic.Lib.VecWindow
public import Idealize.ShloMosaic.Lib.Pipeline.ValueKit.Geometry
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## The partner -/

/-- The device with the same row of the mesh and the other column. -/
def mate (c : Dev nD) : Dev nD := ⟨2 * (c.val / 2) + 1 - c.val % 2, by have := c.isLt; simp only [nD] at *; omega⟩

/-- The partner's partner is the device itself. -/
theorem mate_mate (c : Dev nD) : mate (mate c) = c := by revert c; decide

/-- The partner map as a permutation of the devices. -/
def swap : Dev nD ≃ Dev nD := ⟨mate, mate, mate_mate, mate_mate⟩

/-- The first device word the kernel computes names the partner. -/
theorem dev1_mate (c : Dev nD) : k0_dev1 c = (mate c).val := k0_dev1_eq c
/-- The second device word names the partner. -/
theorem dev2_mate (c : Dev nD) : k0_dev2 c = (mate c).val := k0_dev2_eq c
/-- The third device word names the partner. -/
theorem dev3_mate (c : Dev nD) : k0_dev3 c = (mate c).val := k0_dev3_eq c

/-! ## The halves of the exchange buffer -/

/-- The exchange buffer, whole. -/
abbrev comm : Memref sig .tc .vmem S2x32x128 .f32 := Memref.whole cc0_scratch0

/-- Sixteen rows of one slab, as the copies name them: the rectangle at `off`, its leading axis dropped. -/
abbrev piece (off : Fin 3 → ℕ) (inb : ∀ a, off a + S1x16x128.size a ≤ S2x32x128.size a) : Memref sig .tc .vmem S16x128 .f32 :=
  (comm.slice (Rect.unit (s := S2x32x128) off S1x16x128.size inb) (fun _ => rfl)).squeeze S16x128 squeezes_S1x16x128_S16x128

/-- The indices of half `h` of slab `s`. -/
def half (s h : ℕ) : Finset S2x32x128.Idx := Finset.univ.filter fun j => (j 0).val = s ∧ (j 1).val / 16 = h

/-- Membership in a half, spelt out. -/
theorem mem_half {s h : ℕ} {j : S2x32x128.Idx} : j ∈ half s h ↔ (j 0).val = s ∧ (j 1).val / 16 = h := by
  unfold half; rw [Finset.mem_filter]; exact and_iff_right (Finset.mem_univ j)

/-- A piece at offsets (s, 16h, 0) covers exactly half `h` of slab `s`. -/
theorem piece_set (s h : ℕ) (inb) : (piece ![s, 16 * h, 0] inb).view.set = half s h := by
  have e : (piece ![s, 16 * h, 0] inb).view.set
      = ((View.whole cc0_scratch0).slice (Rect.unit (s := S2x32x128) ![s, 16 * h, 0] S1x16x128.size inb)).set := View.set_reshape _ _
  rw [e]
  ext j
  refine (ValueKit.mem_set_slice_whole_iff cc0_scratch0 _ _ Rect.mem_set_unit).trans ?_
  rw [mem_half]
  have h0 := (j 0).isLt; have h1 := (j 1).isLt; have h2 := (j 2).isLt
  constructor
  · intro H; have a0 := H 0; have a1 := H 1
    simp at a0 a1; omega
  · rintro ⟨e0, e1⟩ a
    fin_cases a
    · simp; omega
    · simp; omega
    · simp; exact h2

/-! ## What the buffer holds -/

/-- The block of `x` device `c` works on at grid point `t`. -/
def xblk (c : Dev nD) (t : Fin cfg0.N) : Vec F S512x1024 .f32 := iblk m c 0 t

/-- Row `r` lies in the store of grid point `r / 4`. -/
def ptOf (r : Fin 32) : Fin cfg0.N := ⟨r.val / 4, by have := N_0; have := r.isLt; show r.val / 4 < grid0.N; omega⟩

/-- The row sum device `c` stores at (r, l) of its slab 0. -/
def rowAt (c : Dev nD) (r : Fin 32) (l : Fin 128) : F .f32 :=
  k0_pay1 (xblk m c (ptOf r)) (fun | 0 => (0 : Fin 1) | 1 => (⟨r.val % 4, Nat.mod_lt _ (by decide)⟩ : Fin 4) | 2 => l)

/-- The exchange buffer of device `c` at the end: its own row sums in slab 0, the partner's in slab 1. -/
def sums (c : Dev nD) : S2x32x128.Idx → F .f32 := fun j => if (j 0).val = 0 then rowAt m c (j 1) (j 2) else rowAt m (mate c) (j 1) (j 2)

/-- A landed copy: half `h` of the partner's slab 1 overwritten with half `h` of `c`'s finished slab 0 holds what the
    partner's buffer holds there at the end. -/
theorem landed_eq (c : Dev nD) (h : ℕ) (inb0 inb1) (fd fs : S2x32x128.Idx → F .f32)
    (hfs : ∀ j ∈ half 0 h, fs j = sums m c j) (j : S2x32x128.Idx) (hj : j ∈ half 1 h) :
    (piece ![1, 16 * h, 0] inb1).view.write (Elt F) fd ((piece ![0, 16 * h, 0] inb0).view.read (Elt F) fs) Finset.univ j
      = sums m (mate c) j := by
  rw [← piece_set 1 h inb1] at hj
  obtain ⟨x, -, rfl⟩ := Finset.mem_map.mp hj
  have hj' : ((piece ![1, 16 * h, 0] inb1).view.emb x) ∈ half 1 h := by rw [← piece_set 1 h inb1]; exact hj
  have hs : ((piece ![0, 16 * h, 0] inb0).view.emb x) ∈ half 0 h := by rw [← piece_set 0 h inb0]; exact View.emb_mem_set _ x
  refine (View.write_emb_of_mem (v := (piece ![1, 16 * h, 0] inb1).view) (Val := Elt F) fd _ (Finset.mem_univ x)).trans ?_
  show (piece ![0, 16 * h, 0] inb0).view.read (Elt F) fs x = _
  refine (View.read_apply (v := (piece ![0, 16 * h, 0] inb0).view) (Val := Elt F) fs x).trans ?_
  refine (hfs _ hs).trans ?_
  have e1 : (((piece ![0, 16 * h, 0] inb0).view.emb x) 1).val = (((piece ![1, 16 * h, 0] inb1).view.emb x) 1).val := rfl
  have e2 : (((piece ![0, 16 * h, 0] inb0).view.emb x) 2).val = (((piece ![1, 16 * h, 0] inb1).view.emb x) 2).val := rfl
  unfold sums
  rw [if_pos (mem_half.mp hs).1, if_neg (by rw [(mem_half.mp hj').1]; decide), mate_mate]
  congr 1 <;> first | exact Fin.ext e1 | exact Fin.ext e2

/-! ## The store of one grid point -/

/-- The rectangle grid point `i` stores: rows 4i to 4i+3 of slab 0. -/
abbrev rows (i : grid0.Coords) : Rect S2x32x128 := Rect.unit (s := S2x32x128) (k0_off1 i) S1x4x128.size (k0_off1_inb i)

/-- Point `i` stores rows 4i to 4i+3 of slab 0. -/
theorem mem_rows (i : grid0.Coords) (j : S2x32x128.Idx) :
    j ∈ ((comm.access (rows i)) : View sig .tc _ _ _).set ↔ (j 0).val = 0 ∧ (j 1).val / 4 = (i 0).val := by
  refine (ValueKit.mem_set_slice_whole_iff cc0_scratch0 _ _ Rect.mem_set_unit).trans ?_
  rw [k0_off1_eq]
  have h0 := (j 0).isLt; have h1 := (j 1).isLt; have h2 := (j 2).isLt
  constructor
  · intro H; have a0 := H 0; have a1 := H 1
    simp at a0 a1; omega
  · rintro ⟨e0, e1⟩ a
    fin_cases a
    · simp; omega
    · simp; omega
    · simp; exact h2

/-- The store of point `i` stays within the half of slab 0 the point belongs to. -/
theorem rows_sub (i : grid0.Coords) (h : ℕ) (hi : (i 0).val / 4 = h) : ((comm.access (rows i)) : View sig .tc _ _ _).set ⊆ half 0 h := by
  intro j hj
  rw [mem_rows] at hj
  rw [mem_half]; omega

/-- Grid point `t` has coordinate `t`. -/
theorem coord_val (t : Fin cfg0.N) : ((grid0.coords t) 0).val = t.val := by
  rcases fin_N0 t with rfl | rfl | rfl | rfl | rfl | rfl | rfl | rfl <;> rfl

/-- Contents agree with the final ones on the rows of half `h` of slab 0 below row `4 n`. -/
def Done (c : Dev nD) (h n : ℕ) (f : S2x32x128.Idx → F .f32) : Prop := ∀ j ∈ half 0 h, (j 1).val < 4 * n → f j = sums m c j

/-- Fewer rows are final if more are; points outside the half's own four change nothing. -/
theorem done_mono {c : Dev nD} {h n n' : ℕ} {f : S2x32x128.Idx → F .f32} (H : Done m c h n f)
    (hn : n' ≤ n ∨ 4 * h + 4 ≤ n ∨ n' ≤ 4 * h) : Done m c h n' f := by
  intro j hj hlt
  have := (mem_half.mp hj).2
  exact H j hj (by omega)

/-- After the store of point `t` one more group of four rows is final. -/
theorem done_store (c : Dev nD) (t : Fin cfg0.N) (h : ℕ) (f : S2x32x128.Idx → F .f32) (H : Done m c h t.val f) :
    Done m c h (t.val + 1)
      (((comm.access (rows (grid0.coords t))) : View sig .tc _ _ _).write (Elt F) f (k0_pay1 (xblk m c t)) Finset.univ) := by
  intro j hj hlt
  have hc : ((grid0.coords t) 0).val = t.val := coord_val t
  by_cases hm : j ∈ ((comm.access (rows (grid0.coords t))) : View sig .tc _ _ _).set
  · have hr := (mem_rows _ _).mp hm
    obtain ⟨x, -, rfl⟩ := Finset.mem_map.mp hm
    refine (View.write_emb_of_mem (v := ((comm.access (rows (grid0.coords t))) : View sig .tc _ _ _)) (Val := Elt F) f _ (Finset.mem_univ x)).trans ?_
    show k0_pay1 (xblk m c t) x = _
    have hx0 : (x 0).val < 1 := (x 0).isLt
    have e1 : ((((comm.access (rows (grid0.coords t))) : View sig .tc _ _ _).emb x 1).val) = 4 * t.val + (x 1).val := by
      refine (ValueKit.view_emb_slice_whole_unit_val cc0_scratch0 _ _ _ x 1).trans ?_
      have e := congrFun (k0_off1_eq (grid0.coords t)) 1
      rw [hc] at e
      exact congrArg (· + (x 1).val) e
    have e2 : ((((comm.access (rows (grid0.coords t))) : View sig .tc _ _ _).emb x 2).val) = (x 2).val := by
      refine (ValueKit.view_emb_slice_whole_unit_val cc0_scratch0 _ _ _ x 2).trans ?_
      exact (congrArg (· + (x 2).val) (congrFun (k0_off1_eq (grid0.coords t)) 2)).trans (Nat.zero_add _)
    have hx1 : (x 1).val < 4 := (x 1).isLt
    unfold sums
    rw [if_pos hr.1]
    unfold rowAt
    have ht : ptOf (((comm.access (rows (grid0.coords t))) : View sig .tc _ _ _).emb x 1) = t := Fin.ext (by show _ / 4 = _; omega)
    rw [ht]
    congr 1
    funext a
    fin_cases a
    · exact Fin.ext (by show (x 0).val = 0; omega)
    · exact Fin.ext (by show (x 1).val = _ % 4; omega)
    · exact Fin.ext e2.symm
  · refine (View.write_of_not_mem (v := ((comm.access (rows (grid0.coords t))) : View sig .tc _ _ _)) (Val := Elt F) f _ _ ?_).trans (H j hj ?_)
    · rw [View.setOn_univ]; exact hm
    · rw [mem_rows] at hm
      have := (mem_half.mp hj).1
      omega

end Cert.KernelIdeal.Run

end
-- ==== Proof.KernelIdeal.Schedule.lean ====
/-
# `Schedule`: the exchange protocol as a schedule of rounds

Each device has five semaphore cells in the protocol, numbered 0 to 4: the barrier, the two send semaphores, the two
receive semaphores. Every cell runs one round with one duty.

* cell 0 (barrier): paid by the partner's signal, one unit. It hands over both halves of the partner's slab 1 at any
  contents, and that the partner's receive cells have reached their round.
* cells 1, 2 (send): paid by the device's own copy of half 0 or 1. They hand the half of slab 0 back, final row sums in it.
* cells 3, 4 (receive): paid by the partner's copy. They hand over the half of slab 1, the partner's row sums in it.
-/
module

public import proofs.«01_k».proof.Proof.KernelIdeal.Comm
public import Idealize.ShloMosaic.Lib.Rounds

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## Resources -/

/-- Two copies of the round resources: one for the pipeline's staging, one for the exchange. -/
abbrev UU : Type := UR sig nD τ × UR sig nD τ

local notation "𝕄" => MT nD τ sig Unit (Elt F) ℕ UU ℕ

/-- The pipeline's rounds within the ghost state. -/
abbrev EP : Emb (UR sig nD τ) (MT nD τ sig Unit (Elt F) ℕ UU ℕ) := embL
/-- The exchange's rounds within the ghost state. -/
abbrev ER : Emb (UR sig nD τ) (MT nD τ sig Unit (Elt F) ℕ UU ℕ) := embR

/-! ## Cells -/

/-- The barrier semaphore, as the kernel names it. -/
abbrev barS : Sem sig := (SemArray.scalar (sig.barrier 0 rfl) : Sems sig S_).sem
/-- The send semaphore of half 0. -/
abbrev snd0 : DmaSem sig := ((cc0_scratch1.slice (Rect.unit (s := S2) ![0] S1.size inb_S2_S1_0)).squeeze S_ squeezes_S1_S_).sem
/-- The send semaphore of half 1. -/
abbrev snd1 : DmaSem sig := ((cc0_scratch1.slice (Rect.unit (s := S2) ![1] S1.size inb_S2_S1_1)).squeeze S_ squeezes_S1_S_).sem
/-- The receive semaphore of half 0. -/
abbrev rcv0 : DmaSem sig := ((cc0_scratch2.slice (Rect.unit (s := S2) ![0] S1.size inb_S2_S1_0)).squeeze S_ squeezes_S1_S_).sem
/-- The receive semaphore of half 1. -/
abbrev rcv1 : DmaSem sig := ((cc0_scratch2.slice (Rect.unit (s := S2) ![1] S1.size inb_S2_S1_1)).squeeze S_ squeezes_S1_S_).sem

/-- The semaphores of the protocol by number. -/
abbrev csem : Fin 5 → SemLoc sig
  | 0 => .reg barS
  | 1 => .dma snd0
  | 2 => .dma snd1
  | 3 => .dma rcv0
  | 4 => .dma rcv1

/-- The number of a semaphore of the protocol. -/
def kindOf (sm : SemLoc sig) : Option (Fin 5) := (List.finRange 5).find? fun k => csem k = sm

/-- A semaphore of the protocol has its own number. -/
theorem kindOf_csem (k : Fin 5) : kindOf (csem k) = some k := by revert k; decide

/-- Different numbers are different semaphores. -/
theorem csem_inj : Function.Injective csem := fun a b h =>
  Option.some.inj ((kindOf_csem a).symm.trans ((congrArg kindOf h).trans (kindOf_csem b)))

/-- Cell `k` of device `c`. -/
abbrev cell (c : Dev nD) (k : Fin 5) : GSem nD τ sig := ((c : Thread nD τ), csem k)

/-- A cell determines its device and its number. -/
theorem cell_eq {c c' : Dev nD} {k k' : Fin 5} (h : cell c k = cell c' k') : c = c' ∧ k = k' :=
  ⟨congrArg (fun g : GSem nD τ sig => g.1.1) h, csem_inj (congrArg Prod.snd h)⟩

/-! ## Contents -/

/-- Half `h` of slab `s` of device `c`'s exchange buffer, at contents `f`. -/
def hpts (c : Dev nD) (s h : ℕ) (f : S2x32x128.Idx → F .f32) : sProp 𝕄 :=
  (Memref.whole cc0_scratch0).view.loc (c : Thread nD τ) ↦[half s h]{fullShare} f

/-- A half through the memref a copy names it by. -/
theorem hpts_eq (c : Dev nD) (s h : ℕ) (inb) (f : S2x32x128.Idx → F .f32) :
    ((piece ![s, 16 * h, 0] inb).view.loc (c : Thread nD τ) ↦[(piece ![s, 16 * h, 0] inb).view.set]{fullShare} f : sProp 𝕄) = hpts c s h f := by
  unfold hpts; rw [← piece_set s h inb]

/-- A half depends on the contents within it only. -/
theorem hpts_congr (c : Dev nD) (s h : ℕ) {f g : S2x32x128.Idx → F .f32} (H : ∀ j ∈ half s h, f j = g j) :
    (hpts c s h f : sProp 𝕄) = hpts c s h g := pointsTo_congr H

/-- Half `h` of slab 0, its rows below `4 n` final. -/
def prog (c : Dev nD) (h n : ℕ) : sProp 𝕄 := iprop(∃ f, ⌜Done m c h n f⌝ ∗ hpts c 0 h f)

/-- Final rows may be forgotten; between points outside the half's own four nothing changes. -/
theorem prog_mono (c : Dev nD) {h n n' : ℕ} (hn : n' ≤ n ∨ 4 * h + 4 ≤ n ∨ n' ≤ 4 * h) : prog m c h n ⊢ prog m c h n' := by
  unfold prog
  iintro ⟨%f, %H, Hf⟩
  iexists f
  isplitr; · ipureintro; exact done_mono m H hn
  iexact Hf

/-- A finished half holds the final row sums. -/
theorem prog_done (c : Dev nD) {h n : ℕ} (hn : 4 * h + 4 ≤ n) : prog m c h n ⊢ hpts c 0 h (sums m c) := by
  unfold prog
  iintro ⟨%f, %H, Hf⟩
  iapply (Entails.of_eq (hpts_congr c 0 h (f := f) (g := sums m c) fun j hj => H j hj (by have := (mem_half.mp hj).2; omega))) $$ Hf

/-- What one copy moves, in semaphore units. -/
abbrev N : ℕ := (piece ![1, 0, 0] inb_S2x32x128_S1x16x128_1_0_0).view.dmaCredit
/-- A copy moves something. -/
theorem N_pos : 0 < N := View.dmaCredit_pos _ (by decide)

/-! ## The schedule -/

/-- What the duty of cell `k` of device `c` hands over. -/
def pay (c : Dev nD) : Fin 5 → sProp 𝕄
  | 0 => iprop((∃ f, hpts (mate c) 1 0 f) ∗ (∃ f, hpts (mate c) 1 1 f) ∗ reached ER (cell (mate c) 3) 0 ∗ reached ER (cell (mate c) 4) 0)
  | 1 => hpts c 0 0 (sums m c)
  | 2 => hpts c 0 1 (sums m c)
  | 3 => hpts c 1 0 (sums m c)
  | 4 => hpts c 1 1 (sums m c)

/-- The units of the duty of cell `k`. -/
def amt (k : Fin 5) : ℕ := if k = 0 then 1 else N
/-- Every duty pays at least one unit. -/
theorem amt_pos (k : Fin 5) : 0 < amt k := by unfold amt; split; exacts [Nat.one_pos, N_pos]

/-- A half may be handed over through a cell. -/
instance hpts_storable (c : Dev nD) (s h : ℕ) (f : S2x32x128.Idx → F .f32) : BI.Storable (upEmb : UEmb _ 𝕄) (hpts c s h f) := by
  unfold hpts; infer_instance

/-- What a duty hands over may be kept in a cell's invariant. -/
instance pay_storable (c : Dev nD) (k : Fin 5) : BI.Storable (upEmb : UEmb _ 𝕄) (pay m c k) := by
  fin_cases k <;> (unfold pay; infer_instance)

/-- One round, one duty on every cell of the protocol. -/
def Rd : Rounds.Schedule (GSem nD τ sig) Unit 𝕄 where
  duties g r := if r = 0 ∧ g.1.2 = .tc ∧ (kindOf g.2).isSome then {()} else ∅
  unitless _ := False
  amount g _ _ := amt ((kindOf g.2).getD 1)
  payload g _ _ := (kindOf g.2).elim iprop(emp) (pay m g.1.1)
  amount_pos g _ _ _ := amt_pos _

/-- Every payload of the schedule may be kept in a cell's invariant. -/
instance rd_storable (g : GSem nD τ sig) (r : ℕ) (d : Unit) : BI.Storable (upEmb : UEmb _ 𝕄) ((Rd m).payload g r d) := by
  show BI.Storable upEmb ((kindOf g.2).elim iprop(emp) (pay m g.1.1))
  cases kindOf g.2 <;> (dsimp only [Option.elim]; infer_instance)

section Facts

variable (c : Dev nD) (k : Fin 5)

/-- Round 0 of a cell of the protocol has the one duty. -/
theorem duties_at : (Rd m).duties (cell c k) 0 = {()} :=
  if_pos ⟨rfl, rfl, by show (kindOf (csem k)).isSome = true; rw [kindOf_csem]; rfl⟩
/-- That duty is in round 0. -/
theorem mem_duties : () ∈ (Rd m).duties (cell c k) 0 := by rw [duties_at]; exact Finset.mem_singleton_self _
/-- Later rounds have no duty. -/
theorem duties_later (g : GSem nD τ sig) : ∀ r, 1 ≤ r → (Rd m).duties g r = ∅ := fun r hr => if_neg fun h => by have := h.1; omega
/-- The duty of cell `k` pays `amt k`. -/
theorem amount_at (u : Unit) : (Rd m).amount (cell c k) 0 u = amt k := by
  show amt ((kindOf (csem k)).getD 1) = _; rw [kindOf_csem]; rfl
/-- Round 0 of cell `k` expects `amt k` in all. -/
theorem expect_at : (Rd m).expect (cell c k) 0 = amt k := by
  unfold Schedule.expect Schedule.amountOf; rw [duties_at, Finset.sum_singleton, amount_at]
/-- The duty of cell `k` hands over `pay c k`. -/
theorem payload_at (u : Unit) : (Rd m).payload (cell c k) 0 u = pay m c k := by
  show (kindOf (csem k)).elim iprop(emp) (pay m c) = _; rw [kindOf_csem]; rfl
/-- All that round 0 of cell `k` hands over is `pay c k`. -/
theorem rest_at : bigSep ((Rd m).duties (cell c k) 0 \ ∅) (fun u => (Rd m).payload (cell c k) 0 u) = pay m c k := by
  rw [Finset.sdiff_empty, duties_at, bigSep_singleton, payload_at]

/-- After its round a cell can be closed: its counter is back, at zero. -/
theorem close (κ : ℕ) : iprop(cellInv ER (Rd m) κ (cell c k) ∗ atPos ER (cell c k) (0 + 1) ∅ 0) ⊢ (|={Set.univ}=> semVal (cell c k) 0 : sProp 𝕄) :=
  Rounds.cell_close ER (Rd m) (Set.mem_univ κ) id (duties_later m (cell c k))

end Facts

/-! ## Debts and levels -/

/-- What device `c` still owes the partner after the first copy: the second copy. -/
def owe1 (c : Dev nD) : CellTallies nD τ sig Unit := tallyAt (cell (mate c) 4) () N
/-- What it owes after the barrier: the second copy and the first. -/
def owe2 (c : Dev nD) : CellTallies nD τ sig Unit := owe1 c + tallyAt (cell (mate c) 3) () N
/-- What it owes at the start: both copies and the signal. -/
def owe3 (c : Dev nD) : CellTallies nD τ sig Unit := owe2 c + tallyAt (cell (mate c) 0) () 1

/-- What is owed before grid point `n`. -/
def oweAt (c : Dev nD) (n : ℕ) : CellTallies nD τ sig Unit :=
  if n = 0 then owe3 c else if n ≤ 3 then owe2 c else if n ≤ 7 then owe1 c else 0

/-- Barrier cells lie at level 1, receive cells at 2, send cells at 0. -/
def lvk : Fin 5 → ℕ | 0 => 1 | 1 => 0 | 2 => 0 | 3 => 2 | 4 => 2
/-- The level of a cell. -/
def lv (g : GSem nD τ sig) (_ : Unit) : ℕ := (kindOf g.2).elim 0 lvk
/-- The labels of a cell: one on TensorCore threads, none elsewhere. -/
def L (g : GSem nD τ sig) : Finset Unit := if g.1.2 = .tc then {()} else ∅

/-- Other threads' cells have no label. -/
theorem L_of_ne (g : GSem nD τ sig) (h : g.1.2 ≠ .tc) : L g = ∅ := if_neg h
/-- A TensorCore thread's cells have the one label. -/
theorem L_tc (c : Dev nD) (sm : SemLoc sig) : () ∈ L ((c : Thread nD τ), sm) := by unfold L; rw [if_pos rfl]; exact Finset.mem_singleton_self _
/-- The level of cell `k`. -/
theorem lv_at (c : Dev nD) (k : Fin 5) (u : Unit) : lv (cell c k) u = lvk k := by
  show (kindOf (csem k)).elim 0 lvk = _; rw [kindOf_csem]; rfl

/-- A tally at one cell is positive there only. -/
theorem tally_pos {g g' : GSem nD τ sig} {n : ℕ} {u : Unit} (h : 0 < (tallyAt g () n : CellTallies nD τ sig Unit) g' u) : g' = g := by
  rw [tallyAt_apply] at h
  split at h
  · next e => exact e.1
  · exact absurd h (Nat.lt_irrefl 0)

/-- After the barrier only the partner's receive cells are owed. -/
theorem owe2_pos {c : Dev nD} {g : GSem nD τ sig} {u : Unit} (h : 0 < owe2 c g u) : g = cell (mate c) 4 ∨ g = cell (mate c) 3 := by
  unfold owe2 owe1 at h
  rw [Pi.add_apply, Finsupp.add_apply] at h
  exact (Nat.add_pos_iff_pos_or_pos.mp h).imp tally_pos tally_pos

/-- At the start only the partner's barrier and receive cells are owed. -/
theorem owe3_pos {c : Dev nD} {g : GSem nD τ sig} {u : Unit} (h : 0 < owe3 c g u) :
    g = cell (mate c) 4 ∨ g = cell (mate c) 3 ∨ g = cell (mate c) 0 := by
  unfold owe3 at h
  rw [Pi.add_apply, Finsupp.add_apply] at h
  rcases Nat.add_pos_iff_pos_or_pos.mp h with h | h
  · exact (owe2_pos h).imp id Or.inl
  · exact .inr (.inr (tally_pos h))

/-- Whatever is owed before any point lies above level 0. -/
theorem oweAt_pos {c : Dev nD} {n : ℕ} {g : GSem nD τ sig} {u : Unit} (h : 0 < oweAt c n g u) : u ∈ L g ∧ 0 < lv g u := by
  have key : g = cell (mate c) 4 ∨ g = cell (mate c) 3 ∨ g = cell (mate c) 0 := by
    unfold oweAt at h
    split at h
    · exact owe3_pos h
    split at h
    · exact (owe2_pos h).imp id Or.inl
    split at h
    · exact .inl (tally_pos h)
    · exact absurd h (Nat.lt_irrefl 0)
  cases u
  rcases key with rfl | rfl | rfl <;> exact ⟨L_tc _ _, by rw [lv_at]; decide⟩

/-- The barrier wait is below what is then owed. -/
theorem mayWait_bar (c : Dev nD) : (levAts L lv : sProp 𝕄) ⊢ MayWait (c : Thread nD τ) (csem 0) () (owe2 c) :=
  MayOwe.of_cut (L := L) (lev := lv) 1 (fun p hp => by rw [Finset.mem_singleton.mp hp]; exact L_tc _ _)
    (fun g u hg => by cases u; rcases owe2_pos hg with rfl | rfl <;> exact L_tc _ _)
    (fun p hp => by rw [Finset.mem_singleton.mp hp]; exact le_of_eq (lv_at c 0 ()))
    (fun g u hg => by rcases owe2_pos hg with rfl | rfl <;> (rw [lv_at]; decide))

end Cert.KernelIdeal.Run

end
-- ==== Proof.KernelIdeal.Steps.lean ====
/-
# `Steps`: one rule per part of the kernel's body

What a device holds between grid points (`R0` to `R3`), and one rule for each part of the body: the store of the row sums,
the meeting at the barrier, the start of either copy, the waits of the last point.
-/
module

public import proofs.«01_k».proof.Proof.KernelIdeal.Schedule

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-- No loop in the program needs a variant. -/
abbrev 𝒱₀ : Variants := Variants.none

/-- The weakest precondition of a kernel program on device `c`. -/
abbrev wpc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## What a device holds -/

/-- Cell `k` of device `c` follows the schedule, by the name `K` gives it. -/
abbrev inv (K : GSem nD τ sig → ℕ) (c : Dev nD) (k : Fin 5) : sProp 𝕄 := cellInv ER (Rd m) (K (cell c k)) (cell c k)

/-- The cells device `c` works with: its own five, the partner's barrier and receive cells. -/
def invs (K : GSem nD τ sig → ℕ) (c : Dev nD) : sProp 𝕄 :=
  iprop(inv m K c 0 ∗ inv m K c 1 ∗ inv m K c 2 ∗ inv m K c 3 ∗ inv m K c 4
    ∗ inv m K (mate c) 0 ∗ inv m K (mate c) 3 ∗ inv m K (mate c) 4)

/-- What is known of the cells may be used again and again. -/
instance invs_persistent (K : GSem nD τ sig → ℕ) (c : Dev nD) : BI.Persistent (invs m K c) := by unfold invs; infer_instance

/-- Some contents of a half. -/
def anyHalf (c : Dev nD) (s h : ℕ) : sProp 𝕄 := iprop(∃ f, hpts c s h f)

/-- The device waits for round 0 of cell `k`. -/
abbrev at0 (c : Dev nD) (k : Fin 5) : sProp 𝕄 := atPos ER (cell c k) 0 ∅ 0
/-- The device has finished round 0 of cell `k`. -/
abbrev at1 (c : Dev nD) (k : Fin 5) : sProp 𝕄 := atPos ER (cell c k) (0 + 1) ∅ 0
/-- Round 0 of cell `k` is reached. -/
abbrev rch (c : Dev nD) (k : Fin 5) : sProp 𝕄 := reached ER (cell c k) 0
/-- The right to pay the duty of cell `k`. -/
abbrev tok (c : Dev nD) (k : Fin 5) : sProp 𝕄 := dutyTok ER (cell c k) 0 ()
/-- The credit for the wait on cell `k`. -/
abbrev crd (c : Dev nD) (k : Fin 5) : sProp 𝕄 := cred (tallyAt (cell c k) () (amt k))

/-- Before the first point: every cell at its start, all duties unpaid, slab 1 at any contents. -/
def R0 (c : Dev nD) : sProp 𝕄 :=
  iprop(∃ K, invs m K c ∗ (at0 c 0 ∗ at0 c 1 ∗ at0 c 2 ∗ at0 c 3 ∗ at0 c 4)
    ∗ (rch (mate c) 0 ∗ rch c 1 ∗ rch c 2 ∗ rch c 3 ∗ rch c 4)
    ∗ (tok (mate c) 0 ∗ tok (mate c) 3 ∗ tok (mate c) 4 ∗ tok c 1 ∗ tok c 2)
    ∗ (crd c 0 ∗ crd c 3 ∗ crd c 4) ∗ levAts L lv ∗ (anyHalf c 1 0 ∗ anyHalf c 1 1) ∗ prog m c 1 4)

/-- After the barrier, before the first copy: the partner's slab 1 is in hand. -/
def R1 (c : Dev nD) : sProp 𝕄 :=
  iprop(∃ K, invs m K c ∗ (at1 c 0 ∗ at0 c 1 ∗ at0 c 2 ∗ at0 c 3 ∗ at0 c 4)
    ∗ (rch c 1 ∗ rch c 2 ∗ rch (mate c) 3 ∗ rch (mate c) 4)
    ∗ (tok (mate c) 3 ∗ tok (mate c) 4 ∗ tok c 1 ∗ tok c 2)
    ∗ (crd c 3 ∗ crd c 4) ∗ (anyHalf (mate c) 1 0 ∗ anyHalf (mate c) 1 1) ∗ prog m c 1 4)

/-- After the first copy's start: half 0 of slab 0 and of the partner's slab 1 are under way. -/
def R2 (c : Dev nD) : sProp 𝕄 :=
  iprop(∃ K, invs m K c ∗ (at1 c 0 ∗ at0 c 1 ∗ at0 c 2 ∗ at0 c 3 ∗ at0 c 4)
    ∗ (rch c 2 ∗ rch (mate c) 4) ∗ (tok (mate c) 4 ∗ tok c 2)
    ∗ (crd c 1 ∗ crd c 3 ∗ crd c 4) ∗ anyHalf (mate c) 1 1)

/-- All five counters at zero. -/
def zeros (c : Dev nD) : sProp 𝕄 :=
  iprop(semVal (cell c 0) 0 ∗ semVal (cell c 1) 0 ∗ semVal (cell c 2) 0 ∗ semVal (cell c 3) 0 ∗ semVal (cell c 4) 0)

/-- The exchange buffer whole, at contents `f`. -/
def whole (c : Dev nD) (f : S2x32x128.Idx → F .f32) : sProp 𝕄 :=
  (Memref.whole cc0_scratch0).view.loc (c : Thread nD τ) ↦{fullShare} f

/-- What the device owes, with some waits recorded. -/
def owing (c : Dev nD) (O : CellTallies nD τ sig Unit) : sProp 𝕄 := iprop(∃ W, owes (c : Thread nD τ) O W)

/-! ## Halves and the whole -/

/-- Different halves share no index. -/
theorem half_disjoint {s h s' h' : ℕ} (hne : s ≠ s' ∨ h ≠ h') : Disjoint (half s h) (half s' h') := by
  rw [Finset.disjoint_left]
  intro j h1 h2
  rw [mem_half] at h1 h2
  omega

/-- The four halves are the whole buffer. -/
theorem half_union : (half 0 0 ∪ half 0 1) ∪ (half 1 0 ∪ half 1 1) = (Finset.univ : Finset S2x32x128.Idx) := by
  refine Finset.eq_univ_of_forall fun j => ?_
  have h0 : (j 0).val < 2 := (j 0).isLt
  have h1 : (j 1).val < 32 := (j 1).isLt
  simp only [Finset.mem_union, mem_half]
  omega

/-- The two slabs share no index. -/
theorem slab_disjoint : Disjoint (half 0 0 ∪ half 0 1) (half 1 0 ∪ half 1 1) := by
  simp only [Finset.disjoint_union_left, Finset.disjoint_union_right]
  exact ⟨⟨half_disjoint (.inl (by decide)), half_disjoint (.inl (by decide))⟩, half_disjoint (.inl (by decide)), half_disjoint (.inl (by decide))⟩

/-- The whole buffer is its four halves. -/
theorem whole_split (c : Dev nD) (f : S2x32x128.Idx → F .f32) :
    (whole c f : sProp 𝕄) ⊣⊢ iprop((hpts c 0 0 f ∗ hpts c 0 1 f) ∗ (hpts c 1 0 f ∗ hpts c 1 1 f)) := by
  unfold whole hpts
  rw [show (Finset.univ : Finset (Idx ((Memref.whole cc0_scratch0).view.loc (c : Thread nD τ)))) = (half 0 0 ∪ half 0 1) ∪ (half 1 0 ∪ half 1 1) from half_union.symm]
  refine (pointsTo_union slab_disjoint).trans ?_
  exact sep_congr (pointsTo_union (half_disjoint (.inr (by decide)))) (pointsTo_union (half_disjoint (.inr (by decide))))

/-! ## The row sums of one point -/

/-- The part of the body every point runs: load the block of `x`, load the rows about to be overwritten (unused), store the
    row sums. Four more rows of the half become final. -/
theorem wp_rows (c : Dev nD) (t : Fin cfg0.N) (h : ℕ) (hh : t.val / 4 = h) (a : Memref sig .tc .vmem S512x1024 .f32)
    {h1 h2 h3 h4} {k : PUnit → Prog (TpuEff nD τ sig (Elt F) Λ₀ .tc) PUnit} {Q : PUnit → sProp 𝕄} :
    iprop(owns (c : Thread nD τ) a fullShare (xblk m c t) ∗ prog m c h t.val)
      ⊢ iprop((owns (c : Thread nD τ) a fullShare (xblk m c t) ∗ prog m c h (t.val + 1) -∗ wpc c (k ⟨⟩) Q)
        -∗ wpc c (.op (.load a (Rect.unit (s := S512x1024) ![0, 0] S512x1024.size inb_S512x1024_S512x1024_0_0).toLoadRect h1) fun v10 =>
            .op (.load comm (rows (grid0.coords t)).toLoadRect h2) fun _ =>
            .op (.store comm (rows (grid0.coords t)) (k0_pay1 v10) Finset.univ h3 h4) k) Q) := by
  unfold owns prog
  iintro ⟨⟨%g, %hg, Hx⟩, %f, %H, Hf⟩ Hk
  have hs : ((comm.access (rows (grid0.coords t))) : View sig .tc _ _ _).set ⊆ half 0 h :=
    rows_sub _ h (by rw [coord_val]; exact hh)
  iapply (wp_load 𝒱₀ (c : Thread nD τ) none Set.univ (m := a) (View.setOn_subset_set _ _)) $$ Hx; iintro Hx
  rw [View.readAt_full, hg]
  unfold hpts
  iapply (wp_load_rect 𝒱₀ (c : Thread nD τ) none Set.univ (m := comm) (r := rows (grid0.coords t)) hs) $$ Hf; iintro Hf
  iapply (wp_store 𝒱₀ (c : Thread nD τ) none Set.univ (m := comm) (r := rows (grid0.coords t)) (Mk := Finset.univ)
    ((View.setOn_subset_set _ _).trans hs)) $$ Hf; iintro Hf
  iapply Hk
  isplitl [Hx]
  · iexists g; isplitr; · ipureintro; exact hg
    iexact Hx
  iexists _; isplitr
  · ipureintro; exact done_store m c t h f H
  iexact Hf

/-! ## The meeting at the barrier -/

/-- The first point's barrier: the signal hands the own slab 1 to the partner, the wait brings the partner's. -/
theorem wp_meet (c n : Dev nD) (hn : n = mate c) {k : PUnit → Prog (TpuEff nD τ sig (Elt F) Λ₀ .tc) PUnit} {Q : PUnit → sProp 𝕄} :
    iprop(R0 m c ∗ owing c (owe3 c))
      ⊢ iprop((R1 m c ∗ owing c (owe2 c) -∗ wpc c (k ⟨⟩) Q)
        -∗ wpc c (.op (.semSignal (n, Proc.tc) barS (1#32).toInt) fun _ => .op (.semWait barS (1#32).toInt) k) Q) := by
  subst hn
  unfold R0 invs owing anyHalf
  iintro ⟨⟨%K, ⟨#I0, #I1, #I2, #I3, #I4, #J0, #J3, #J4⟩, ⟨A0, A1, A2, A3, A4⟩, ⟨#Hr0, #Hr1, #Hr2, #Hr3, #Hr4⟩,
    ⟨T0, T3, T4, T1, T2⟩, ⟨C0, C3, C4⟩, #Hlev, ⟨⟨%f0, H0⟩, %f1, H1⟩, Hp⟩, %W, HO⟩ Hk
  iapply (Rounds.wp_signal 𝒱₀ ER (Rd m) (c : Thread nD τ) none (dst := (mate c : Thread nD τ)) (κ := K (cell (mate c) 0)) (r := 0) (d := ())
      (mem_duties m (mate c) 0) ((amount_at m (mate c) 0 ()).trans (by decide)) () (owe2 c) rfl) $$ [HO T0 H0 H1]
  · isplitr; · iexact J0
    isplitl [HO]; · iexact HO
    isplitl [T0]; · iexact T0
    isplitl [H0 H1]
    · iapply (Entails.of_eq (payload_at m (mate c) 0 ()).symm)
      unfold pay; rw [mate_mate]
      isplitl [H0]; · iexists f0; iexact H0
      isplitl [H1]; · iexists f1; iexact H1
      isplitr; · iexact Hr3
      iexact Hr4
    iexact Hr0
  iintro HO
  iapply (Rounds.wp_wait_rest_token 𝒱₀ ER (Rd m) (c : Thread nD τ) none (κ := K (cell c 0))
      (wpE_semWait_eq 𝒱₀ (c : Thread nD τ) none Set.univ) (Set.mem_univ _) () (O := owe2 c) (W := W) (R := 0) (m := 0) (T := ∅)
      ((Nat.zero_add 1).trans (expect_at m c 0).symm)) $$ [C0 HO A0]
  · isplitr; · iexact I0
    isplitl [C0]; · iexact C0
    isplitl [HO]; · iexact HO
    isplitr; · iapply (mayWait_bar c); iexact Hlev
    iexact A0
  iintro ⟨HO, A0, -, Hpay⟩
  ihave Hq := (Entails.of_eq (rest_at m c 0)) $$ Hpay
  unfold pay
  icases Hq with ⟨H0, H1, #Hm3, #Hm4⟩
  iapply Hk
  isplitr [HO]
  · unfold R1 invs anyHalf
    iexists K
    isplitr
    · isplitr; · iexact I0
      isplitr; · iexact I1
      isplitr; · iexact I2
      isplitr; · iexact I3
      isplitr; · iexact I4
      isplitr; · iexact J0
      isplitr; · iexact J3
      iexact J4
    isplitl [A0 A1 A2 A3 A4]
    · isplitl [A0]; · iexact A0
      isplitl [A1]; · iexact A1
      isplitl [A2]; · iexact A2
      isplitl [A3] <;> iassumption
    isplitr
    · isplitr; · iexact Hr1
      isplitr; · iexact Hr2
      isplitr; · iexact Hm3
      iexact Hm4
    isplitl [T3 T4 T1 T2]
    · isplitl [T3]; · iexact T3
      isplitl [T4]; · iexact T4
      isplitl [T1] <;> iassumption
    isplitl [C3 C4]; · isplitl [C3] <;> iassumption
    isplitl [H0 H1]; · isplitl [H0] <;> iassumption
    iexact Hp
  iexists _; iexact HO

/-! ## The copies -/

/-- A copy of half `h`: the finished half of slab 0 and the partner's half of slab 1 go with it; the credit for its send
    wait comes back, and the debt to the partner's receive cell is paid. -/
theorem wp_copy (K : GSem nD τ sig → ℕ) (c n : Dev nD) (hn : n = mate c) (h : ℕ) (k₁ k₂ : Fin 5) (sS sR : DmaSem sig)
    (e₁ : csem k₁ = .dma sS) (e₂ : csem k₂ = .dma sR) (a₁ : amt k₁ = N) (a₂ : amt k₂ = N) (inb0 inb1)
    (hN : (piece ![1, 16 * h, 0] inb1).view.amount (SemLoc.dma sR : SemLoc sig) = N)
    (p₁ : ∀ d, pay m d k₁ = hpts d 0 h (sums m d)) (p₂ : ∀ d, pay m d k₂ = hpts d 1 h (sums m d))
    {hsc hsrc hdst hsem} {k : PUnit → Prog (TpuEff nD τ sig (Elt F) Λ₀ .tc) PUnit} {Q : PUnit → sProp 𝕄}
    (O : CellTallies nD τ sig Unit) :
    iprop(inv m K c k₁ ∗ inv m K (mate c) k₂ ∗ hpts c 0 h (sums m c) ∗ anyHalf (mate c) 1 h
        ∗ owing c (O + tallyAt (cell (mate c) k₂) () N) ∗ (tok c k₁ ∗ rch c k₁) ∗ tok (mate c) k₂ ∗ rch (mate c) k₂)
      ⊢ iprop((crd c k₁ ∗ owing c O -∗ wpc c (k ⟨⟩) Q)
        -∗ wpc c (.op (.enqueueDma (piece ![0, 16 * h, 0] inb0) (.remote (Dev.tc n : Thread nD τ) (piece ![1, 16 * h, 0] inb1) (.dma sS) hsc) (.dma sR) hsrc hdst hsem) k) Q) := by
  subst hn
  unfold owing anyHalf inv tok rch crd
  rw [show cell c k₁ = ((c : Thread nD τ), SemLoc.dma sS) from congrArg (Prod.mk _) e₁,
    show cell (mate c) k₂ = ((mate c : Thread nD τ), SemLoc.dma sR) from congrArg (Prod.mk _) e₂, a₁]
  iintro ⟨#I1, #I2, Hs, ⟨%fd, Hd⟩, ⟨%W, HO⟩, ⟨T1, #Hr1⟩, T2, #Hr2⟩ Hk
  have d₁ : () ∈ (Rd m).duties ((c : Thread nD τ), SemLoc.dma sS) 0 := e₁ ▸ mem_duties m c k₁
  have d₂ : () ∈ (Rd m).duties ((mate c : Thread nD τ), SemLoc.dma sR) 0 := e₂ ▸ mem_duties m (mate c) k₂
  have m₁ : (Rd m).amount ((c : Thread nD τ), SemLoc.dma sS) 0 () = N := by rw [← e₁]; exact (amount_at m c k₁ ()).trans a₁
  have m₂ : (Rd m).amount ((mate c : Thread nD τ), SemLoc.dma sR) 0 () = N := by rw [← e₂]; exact (amount_at m (mate c) k₂ ()).trans a₂
  have q₁ : (Rd m).payload ((c : Thread nD τ), SemLoc.dma sS) 0 () = hpts c 0 h (sums m c) := by
    rw [← e₁]; exact (payload_at m c k₁ ()).trans (p₁ c)
  have q₂ : (Rd m).payload ((mate c : Thread nD τ), SemLoc.dma sR) 0 () = hpts (mate c) 1 h (sums m (mate c)) := by
    rw [← e₂]; exact (payload_at m (mate c) k₂ ()).trans (p₂ (mate c))
  have hpay₂ : ((piece ![1, 16 * h, 0] inb1).view.loc (mate c : Thread nD τ) ↦[(piece ![1, 16 * h, 0] inb1).view.set]{fullShare}
        ((piece ![1, 16 * h, 0] inb1).view.write (Elt F) fd ((piece ![0, 16 * h, 0] inb0).view.read (Elt F) (sums m c)) Finset.univ) : sProp 𝕄)
      ⊢ (Rd m).payload ((mate c : Thread nD τ), SemLoc.dma sR) 0 () := by
    rw [hpts_eq (mate c) 1 h inb1, q₂]
    exact Entails.of_eq (hpts_congr (mate c) 1 h fun j hj => landed_eq m c h inb0 inb1 fd (sums m c) (fun _ _ => rfl) j hj)
  iapply (Rounds.wp_send_pointsTo 𝒱₀ ER (Rd m) (c : Thread nD τ) none (c' := (mate c : Thread nD τ)) (src := piece ![0, 16 * h, 0] inb0)
      (dst := piece ![1, 16 * h, 0] inb1) (sS := .dma sS) (sem := .dma sR) (q := fullShare) (fs := sums m c) (fd := fd)
      (κ₁ := K ((c : Thread nD τ), SemLoc.dma sS)) (κ₂ := K ((mate c : Thread nD τ), SemLoc.dma sR)) (r₁ := 0) (r₂ := 0) (d₁ := ()) (d₂ := ())
      d₁ d₂ () () N hN m₁ m₂ O rfl (W := W)
      (by rw [q₁, hpts_eq c 0 h inb0]) hpay₂) $$ [Hs Hd HO T1 T2]
  · isplitr; · iexact I1
    isplitr; · iexact I2
    isplitl [Hs]; · iapply (Entails.of_eq (hpts_eq c 0 h inb0 (sums m c)).symm) $$ Hs
    isplitl [Hd]; · iapply (Entails.of_eq (hpts_eq (mate c) 1 h inb1 fd).symm) $$ Hd
    isplitl [HO]; · iexact HO
    isplitl [T1]; · iexact T1
    isplitr; · iexact Hr1
    isplitl [T2]; · iexact T2
    iexact Hr2
  iintro ⟨Hc, HO⟩
  iapply Hk
  isplitl [Hc]; · iexact Hc
  iexists W; iexact HO

/-- A wait on cell `k` with no debt: the duty's payload comes back. -/
theorem wp_take (K : GSem nD τ sig → ℕ) (c : Dev nD) (k : Fin 5) (sm : DmaSem sig) (e : csem k = .dma sm) (a : amt k = N)
    {off₀ off₁ : Fin 3 → ℕ} {inb0 inb1} (hN : (piece off₁ inb1).view.dmaCredit = N)
    {hsrc hdst} {p : PUnit → Prog (TpuEff nD τ sig (Elt F) Λ₀ .tc) PUnit} {Q : PUnit → sProp 𝕄} :
    iprop(inv m K c k ∗ crd c k ∗ owing c 0 ∗ at0 c k)
      ⊢ iprop((at1 c k ∗ owing c 0 ∗ pay m c k -∗ wpc c (p ⟨⟩) Q)
        -∗ wpc c (.op (.waitDma2 sm (piece off₀ inb0) (piece off₁ inb1) hsrc hdst) p) Q) := by
  have ee : cell c k = ((c : Thread nD τ), SemLoc.dma sm) := congrArg (Prod.mk _) e
  have hx := expect_at m c k
  have hr := rest_at m c k
  unfold owing inv crd at0 at1
  rw [ee] at hx hr ⊢
  rw [a] at hx ⊢
  iintro ⟨#I, C, ⟨%W, HO⟩, A⟩ Hk
  iapply (Rounds.wp_wait_rest_token 𝒱₀ ER (Rd m) (c : Thread nD τ) none (κ := K ((c : Thread nD τ), SemLoc.dma sm))
      (wpE_waitDma2_eq 𝒱₀ (c : Thread nD τ) none Set.univ) (Set.mem_univ _) () (O := 0) (W := W) (R := 0) (m := 0) (T := ∅)
      ((Nat.zero_add _).trans (hN.trans hx.symm))) $$ [C HO A]
  · isplitr; · iexact I
    isplitl [C]; · rw [hN]; iexact C
    isplitl [HO]; · iexact HO
    isplitr; · rw [MayWait_zero]; iempintro
    iexact A
  iintro ⟨HO, A, -, Hpay⟩
  ihave Hq := (Entails.of_eq hr) $$ Hpay
  iapply Hk
  isplitl [A]; · iexact A
  isplitl [HO]; · iexists _; iexact HO
  iexact Hq

end Cert.KernelIdeal.Run

end
-- ==== Proof.KernelIdeal.Last.lean ====
/-
# `Last`: the end of the last grid point

After the second copy's start the device waits for its two sends and its two receives; the exchange buffer is then whole,
the own row sums in slab 0 and the partner's in slab 1. The kernel adds the slabs, scales, and stores the result.
-/
module

public import proofs.«01_k».proof.Proof.KernelIdeal.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-- Slab 0 of the exchange buffer as a rectangle. -/
abbrev slab0 : Rect S2x32x128 := Rect.unit (s := S2x32x128) ![0, 0, 0] S1x32x128.size inb_S2x32x128_S1x32x128_0_0_0
/-- Slab 1 of the exchange buffer as a rectangle. -/
abbrev slab1 : Rect S2x32x128 := Rect.unit (s := S2x32x128) ![1, 0, 0] S1x32x128.size inb_S2x32x128_S1x32x128_1_0_0

/-- The result of device `c`: both slabs added and scaled. -/
def outAt (c : Dev nD) : S32x128.Idx → F .f32 :=
  k0_pay2 (comm.view.readAt (Elt F) slab0.toLoadRect (sums m c)) (comm.view.readAt (Elt F) slab1.toLoadRect (sums m c))

/-- An unmasked store over the whole result block leaves what it stored. -/
theorem stored (g w : S32x128.Idx → F .f32) :
    (Memref.whole cc0_stg1_0).view.read (Elt F) (((Memref.whole cc0_stg1_0).access (Rect.unit (s := S32x128) ![0, 0] S32x128.size inb_S32x128_S32x128_0_0)).write (Elt F) g w Finset.univ) = w :=
  Memref.write_access_unit_zero_univ (Elt F) cc0_stg1_0 (off := ![0, 0]) (by funext a; fin_cases a <;> rfl) inb_S32x128_S32x128_0_0 g w

/-- From the second half finished to the end of the body. -/
theorem wp_last (c n : Dev nD) (hn : n = mate c) (d : S32x128.Idx → F .f32)
    {hsc hsrc hdst hsem w1 w2 w3 w4 w5 w6 w7 w8 l1 l2 l3 s1 s2} {Q : PUnit → sProp 𝕄} :
    iprop(R2 m c ∗ prog m c 1 8 ∗ owing c (owe1 c) ∗ owns (c : Thread nD τ) (Memref.whole cc0_stg1_0) fullShare d)
      ⊢ iprop((zeros c ∗ (∃ f, whole c f) ∗ owing c 0 ∗ owns (c : Thread nD τ) (Memref.whole cc0_stg1_0) fullShare (outAt m c) -∗ Q ⟨⟩)
        -∗ wpc c (.op (.enqueueDma (piece ![0, 16, 0] inb_S2x32x128_S1x16x128_0_16_0) (.remote (Dev.tc n : Thread nD τ) (piece ![1, 16, 0] inb_S2x32x128_S1x16x128_1_16_0) (.dma snd1) hsc) (.dma rcv1) hsrc hdst hsem) fun _ =>
          .op (.waitDma2 snd0 (piece ![1, 0, 0] inb_S2x32x128_S1x16x128_1_0_0) (piece ![0, 0, 0] inb_S2x32x128_S1x16x128_0_0_0) w1 w2) fun _ =>
          .op (.waitDma2 rcv0 (piece ![0, 0, 0] inb_S2x32x128_S1x16x128_0_0_0) (piece ![1, 0, 0] inb_S2x32x128_S1x16x128_1_0_0) w3 w4) fun _ =>
          .op (.waitDma2 snd1 (piece ![1, 16, 0] inb_S2x32x128_S1x16x128_1_16_0) (piece ![0, 16, 0] inb_S2x32x128_S1x16x128_0_16_0) w5 w6) fun _ =>
          .op (.waitDma2 rcv1 (piece ![0, 16, 0] inb_S2x32x128_S1x16x128_0_16_0) (piece ![1, 16, 0] inb_S2x32x128_S1x16x128_1_16_0) w7 w8) fun _ =>
          .op (.load comm slab0.toLoadRect l1) fun v69 =>
          .op (.load comm slab1.toLoadRect l2) fun v71 =>
          .op (.load (Memref.whole cc0_stg1_0) (Rect.unit (s := S32x128) ![0, 0] S32x128.size inb_S32x128_S32x128_0_0).toLoadRect l3) fun _ =>
          .op (.store (Memref.whole cc0_stg1_0) (Rect.unit (s := S32x128) ![0, 0] S32x128.size inb_S32x128_S32x128_0_0) (k0_pay2 v69 v71) Finset.univ s1 s2) fun _ =>
          .ret ⟨⟩) Q) := by
  have hu : (Memref.whole cc0_stg1_0).view.set = Finset.univ := View.set_whole _
  unfold R2 invs
  iintro ⟨⟨%K, ⟨#I0, #I1, #I2, #I3, #I4, #J0, #J3, #J4⟩, ⟨A0, A1, A2, A3, A4⟩, ⟨#Hr2, #Hm4⟩, ⟨T4, T2⟩, ⟨C1, C3, C4⟩, Hd⟩, Hp, HO, Hb⟩ Hk
  ihave Hs := (prog_done m c (h := 1) (n := 8) (by decide)) $$ Hp
  iapply (wp_copy m K c n hn 1 2 4 snd1 rcv1 rfl rfl rfl rfl inb_S2x32x128_S1x16x128_0_16_0 inb_S2x32x128_S1x16x128_1_16_0 rfl (fun _ => rfl) (fun _ => rfl) 0) $$ [Hs Hd HO T2 T4]
  · isplitr; · iexact I2
    isplitr; · iexact J4
    isplitl [Hs]; · iexact Hs
    isplitl [Hd]; · iexact Hd
    isplitl [HO]; · rw [zero_add]; unfold owe1; iexact HO
    isplitl [T2]; · isplitl [T2]; · iexact T2
                    iexact Hr2
    isplitl [T4]; · iexact T4
    iexact Hm4
  iintro ⟨C2, HO⟩
  iapply (wp_take m K c 1 snd0 rfl rfl (inb0 := inb_S2x32x128_S1x16x128_1_0_0) (inb1 := inb_S2x32x128_S1x16x128_0_0_0) rfl) $$ [C1 HO A1]
  · isplitr; · iexact I1
    isplitl [C1]; · iexact C1
    isplitl [HO] <;> iassumption
  iintro ⟨A1, HO, P1⟩
  iapply (wp_take m K c 3 rcv0 rfl rfl (inb0 := inb_S2x32x128_S1x16x128_0_0_0) (inb1 := inb_S2x32x128_S1x16x128_1_0_0) rfl) $$ [C3 HO A3]
  · isplitr; · iexact I3
    isplitl [C3]; · iexact C3
    isplitl [HO] <;> iassumption
  iintro ⟨A3, HO, P3⟩
  iapply (wp_take m K c 2 snd1 rfl rfl (inb0 := inb_S2x32x128_S1x16x128_1_16_0) (inb1 := inb_S2x32x128_S1x16x128_0_16_0) rfl) $$ [C2 HO A2]
  · isplitr; · iexact I2
    isplitl [C2]; · iexact C2
    isplitl [HO] <;> iassumption
  iintro ⟨A2, HO, P2⟩
  iapply (wp_take m K c 4 rcv1 rfl rfl (inb0 := inb_S2x32x128_S1x16x128_0_16_0) (inb1 := inb_S2x32x128_S1x16x128_1_16_0) rfl) $$ [C4 HO A4]
  · isplitr; · iexact I4
    isplitl [C4]; · iexact C4
    isplitl [HO] <;> iassumption
  iintro ⟨A4, HO, P4⟩
  unfold pay
  ihave Hw := (whole_split c (sums m c)).2 $$ [P1 P2 P3 P4]
  · isplitl [P1 P2]
    · isplitl [P1] <;> iassumption
    isplitl [P3] <;> iassumption
  unfold whole owns
  icases Hb with ⟨%g, %hg, Hb⟩
  iapply (wp_load 𝒱₀ (c : Thread nD τ) none Set.univ (m := comm) (Finset.subset_univ _)) $$ Hw; iintro Hw
  iapply (wp_load 𝒱₀ (c : Thread nD τ) none Set.univ (m := comm) (Finset.subset_univ _)) $$ Hw; iintro Hw
  iapply (wp_load 𝒱₀ (c : Thread nD τ) none Set.univ (m := Memref.whole cc0_stg1_0) (View.setOn_subset_set _ _)) $$ Hb; iintro Hb
  iapply (wp_store 𝒱₀ (c : Thread nD τ) none Set.univ (m := Memref.whole cc0_stg1_0) (r := Rect.unit (s := S32x128) ![0, 0] S32x128.size inb_S32x128_S32x128_0_0) (Mk := Finset.univ)
    (S := (Memref.whole cc0_stg1_0).view.set) (by rw [hu]; exact Finset.subset_univ _)) $$ Hb; iintro Hb
  rw [wp_ret]
  imod (close m c 0 (K (cell c 0))) $$ [A0] with Z0
  · isplitr; · iexact I0
    iexact A0
  imod (close m c 1 (K (cell c 1))) $$ [A1] with Z1
  · isplitr; · iexact I1
    iexact A1
  imod (close m c 2 (K (cell c 2))) $$ [A2] with Z2
  · isplitr; · iexact I2
    iexact A2
  imod (close m c 3 (K (cell c 3))) $$ [A3] with Z3
  · isplitr; · iexact I3
    iexact A3
  imod (close m c 4 (K (cell c 4))) $$ [A4] with Z4
  · isplitr; · iexact I4
    iexact A4
  imodintro
  iapply Hk
  isplitl [Z0 Z1 Z2 Z3 Z4]
  · unfold zeros
    isplitl [Z0]; · iexact Z0
    isplitl [Z1]; · iexact Z1
    isplitl [Z2]; · iexact Z2
    isplitl [Z3] <;> iassumption
  isplitl [Hw]; · iexists _; iexact Hw
  isplitl [HO]; · iexact HO
  iexists _; isplitr
  · ipureintro; exact stored g _
  iexact Hb

end Cert.KernelIdeal.Run

end
-- ==== Proof.KernelIdeal.Body.lean ====
/-
# `Body`: the kernel's body at every grid point

`Inv c n` is what device `c` holds before point `n`. The body takes it from `n` to `n + 1`: point 0 meets the partner first,
points 3 and 7 start a copy, point 7 also finishes, every other point only stores its row sums.
-/
module

public import proofs.«01_k».proof.Proof.KernelIdeal.Last

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ)

local notation "𝕄" => MT nD τ sig Unit (Elt F) ℕ UU ℕ

/-- The points the kernel's three conditions pick: the first, the fourth, the last. -/
theorem cond_pos (t : Fin cfg0.N) : (k0_cond1 (grid0.coords t) = 1#1 ↔ t.val = 0) ∧ (k0_cond2 (grid0.coords t) = 1#1 ↔ t.val = 3)
    ∧ (k0_cond3 (grid0.coords t) = 1#1 ↔ t.val = 7) := by
  rcases fin_N0 t with rfl | rfl | rfl | rfl | rfl | rfl | rfl | rfl <;> decide +kernel

/-- What device `c` holds before point `n`, the random register apart. -/
def Inv (c : Dev nD) (n : ℕ) : sProp 𝕄 :=
  if n = 0 then iprop(R0 m c ∗ prog m c 0 0)
  else if n ≤ 3 then iprop(R1 m c ∗ prog m c 0 n)
  else if n ≤ 7 then iprop(R2 m c ∗ prog m c 1 n)
  else iprop(zeros c ∗ ∃ f, whole c f)

/-- The invariant before point 0. -/
theorem inv_start (c : Dev nD) : Inv m c 0 = iprop(R0 m c ∗ prog m c 0 0) := rfl
/-- The invariant before points 1 to 3. -/
theorem inv_first (c : Dev nD) {n : ℕ} (h : 1 ≤ n) (h' : n ≤ 3) : Inv m c n = iprop(R1 m c ∗ prog m c 0 n) := by
  unfold Inv; rw [if_neg (by omega), if_pos h']
/-- The invariant before points 4 to 7. -/
theorem inv_second (c : Dev nD) {n : ℕ} (h : 4 ≤ n) (h' : n ≤ 7) : Inv m c n = iprop(R2 m c ∗ prog m c 1 n) := by
  unfold Inv; rw [if_neg (by omega), if_neg (by omega), if_pos h']
/-- The invariant at the end. -/
theorem inv_end (c : Dev nD) : Inv m c 8 = iprop(zeros c ∗ ∃ f, whole c f) := rfl

/-- The debt before points 1 to 3. -/
theorem owe_first (c : Dev nD) {n : ℕ} (h : 1 ≤ n) (h' : n ≤ 3) : oweAt c n = owe2 c := by
  unfold oweAt; rw [if_neg (by omega), if_pos h']
/-- The debt before points 4 to 7. -/
theorem owe_second (c : Dev nD) {n : ℕ} (h : 4 ≤ n) (h' : n ≤ 7) : oweAt c n = owe1 c := by
  unfold oweAt; rw [if_neg (by omega), if_neg (by omega), if_pos h']

/-- What one point asks for and gives back around the body: the invariant, the debt, the block of `x`, the result block
    (`b` before, `b'` after). -/
def at' (c : Dev nD) (t : Fin cfg0.N) (n : ℕ) (b : S32x128.Idx → F .f32) : sProp 𝕄 :=
  iprop(Inv m c n ∗ owing c (oweAt c n) ∗ owns (c : Thread nD τ) (st0_0 t) fullShare (xblk m c t)
    ∗ owns (c : Thread nD τ) (st0_1 t) fullShare b)

/-- A program that has ended. -/
theorem wp_done (c : Dev nD) {Q : PUnit → sProp 𝕄} : Q ⟨⟩ ⊢ wpc c (Prog.ret ⟨⟩) Q := by
  unfold wpc; rw [wp_ret]
  iintro H; imodintro; iexact H

variable (c : Dev nD) (t : Fin cfg0.N) (b : S32x128.Idx → F .f32)

/-- A point that only stores its row sums. -/
theorem plain {Q : PUnit → sProp 𝕄} (h1 : t.val ≠ 0) (h2 : t.val ≠ 3) (h3 : t.val ≠ 7) :
    at' m c t t.val b ⊢ iprop((at' m c t (t.val + 1) b -∗ Q ⟨⟩) -∗ wpc c (bodyAt0 t) Q) := by
  have h8 : t.val < 8 := t.isLt
  have n1 := mt (cond_pos t).1.mp h1
  have n2 := mt (cond_pos t).2.1.mp h2
  have n3 := mt (cond_pos t).2.2.mp h3
  have hI : ∃ (X : sProp 𝕄) (h : ℕ), t.val / 4 = h ∧ Inv m c t.val = iprop(X ∗ prog m c h t.val)
      ∧ Inv m c (t.val + 1) = iprop(X ∗ prog m c h (t.val + 1)) ∧ oweAt c (t.val + 1) = oweAt c t.val := by
    rcases Nat.lt_or_ge t.val 3 with h | h
    · exact ⟨R1 m c, 0, by omega, inv_first m c (by omega) (by omega), inv_first m c (by omega) (by omega),
        (owe_first c (by omega) (by omega)).trans (owe_first c (by omega) (by omega)).symm⟩
    · exact ⟨R2 m c, 1, by omega, inv_second m c (by omega) (by omega), inv_second m c (by omega) (by omega),
        (owe_second c (by omega) (by omega)).trans (owe_second c (by omega) (by omega)).symm⟩
  obtain ⟨X, h, hh, e1, e2, e3⟩ := hI
  unfold at'
  rw [e1, e2, e3]
  unfold bodyAt0
  simp only [cc0_body_eq_skeleton]; unfold cc0_body_skel
  simp only [k0_part1_eq_skeleton]; unfold k0_part1_skel
  simp only [dif_neg n1, dif_neg n2, dif_neg n3, semSignalWord, semWaitWord, Prog.lift, Prog.bind_op, Prog.bind_ret, Prog.pure_eq_ret, wp_deviceId]
  iintro ⟨⟨HX, Hp⟩, HO, Hx, Hb⟩ Hk
  iapply (wp_rows m c t h hh (st0_0 t)) $$ [Hx Hp]
  · isplitl [Hx]; · iexact Hx
    iexact Hp
  iintro ⟨Hx, Hp⟩
  iapply (wp_done c)
  iapply Hk
  isplitl [HX Hp]
  · isplitl [HX]; · iexact HX
    iexact Hp
  isplitl [HO]; · iexact HO
  isplitl [Hx]; · iexact Hx
  iexact Hb

/-- The first point. -/
theorem first {Q : PUnit → sProp 𝕄} (h : t.val = 0) : at' m c t 0 b ⊢ iprop((at' m c t 1 b -∗ Q ⟨⟩) -∗ wpc c (bodyAt0 t) Q) := by
  have n1 := (cond_pos t).1.mpr h
  have n2 := mt (cond_pos t).2.1.mp (by omega)
  have n3 := mt (cond_pos t).2.2.mp (by omega)
  unfold at'
  rw [inv_start, inv_first m c (le_refl 1) (by decide), owe_first c (le_refl 1) (by decide), show oweAt c 0 = owe3 c from rfl]
  unfold bodyAt0
  simp only [cc0_body_eq_skeleton]; unfold cc0_body_skel
  simp only [k0_part1_eq_skeleton]; unfold k0_part1_skel
  simp only [dif_pos n1, dif_neg n2, dif_neg n3, semSignalWord, semWaitWord, Prog.lift, Prog.bind_op, Prog.bind_ret, Prog.pure_eq_ret, wp_deviceId]
  iintro ⟨⟨HX, Hp⟩, HO, Hx, Hb⟩ Hk
  iapply (wp_meet m c _ (Fin.ext (dev1_mate c))) $$ [HX HO]
  · isplitl [HX]; · iexact HX
    iexact HO
  iintro ⟨HX, HO⟩
  iapply (wp_rows m c t 0 (by rw [h]) (st0_0 t)) $$ [Hx Hp]
  · isplitl [Hx]; · iexact Hx
    rw [h]; iexact Hp
  rw [h]
  iintro ⟨Hx, Hp⟩
  iapply (wp_done c)
  iapply Hk
  isplitl [HX Hp]
  · isplitl [HX]; · iexact HX
    iexact Hp
  isplitl [HO]; · iexact HO
  isplitl [Hx]; · iexact Hx
  iexact Hb

/-- The fourth point: half 0 is finished and its copy starts. -/
theorem fourth {Q : PUnit → sProp 𝕄} (h : t.val = 3) : at' m c t 3 b ⊢ iprop((at' m c t 4 b -∗ Q ⟨⟩) -∗ wpc c (bodyAt0 t) Q) := by
  have n1 := mt (cond_pos t).1.mp (by omega)
  have n2 := (cond_pos t).2.1.mpr h
  have n3 := mt (cond_pos t).2.2.mp (by omega)
  unfold at'
  rw [inv_first m c (by decide) (le_refl 3), inv_second m c (le_refl 4) (by decide), owe_first c (by decide) (le_refl 3), owe_second c (le_refl 4) (by decide)]
  unfold bodyAt0
  simp only [cc0_body_eq_skeleton]; unfold cc0_body_skel
  simp only [k0_part1_eq_skeleton]; unfold k0_part1_skel
  simp only [dif_neg n1, dif_pos n2, dif_neg n3, semSignalWord, semWaitWord, Prog.lift, Prog.bind_op, Prog.bind_ret, Prog.pure_eq_ret, wp_deviceId]
  iintro ⟨⟨HX, Hp⟩, HO, Hx, Hb⟩ Hk
  iapply (wp_rows m c t 0 (by rw [h]) (st0_0 t)) $$ [Hx Hp]
  · isplitl [Hx]; · iexact Hx
    rw [h]; iexact Hp
  rw [h]
  iintro ⟨Hx, Hp⟩
  ihave Hs := (prog_done m c (h := 0) (n := 4) (by decide)) $$ Hp
  unfold R1 invs
  icases HX with ⟨%K, ⟨#I0, #I1, #I2, #I3, #I4, #J0, #J3, #J4⟩, HA, ⟨#Hr1, #Hr2, #Hm3, #Hm4⟩, ⟨T3, T4, T1, T2⟩, ⟨C3, C4⟩, ⟨Hd0, Hd1⟩, Hq⟩
  iapply (wp_copy m K c _ (Fin.ext (dev2_mate c)) 0 1 3 snd0 rcv0 rfl rfl rfl rfl inb_S2x32x128_S1x16x128_0_0_0 inb_S2x32x128_S1x16x128_1_0_0 rfl (fun _ => rfl) (fun _ => rfl) (owe1 c)) $$ [Hs Hd0 HO T1 T3]
  · isplitr; · iexact I1
    isplitr; · iexact J3
    isplitl [Hs]; · iexact Hs
    isplitl [Hd0]; · iexact Hd0
    isplitl [HO]; · unfold owe2; iexact HO
    isplitl [T1]; · isplitl [T1]; · iexact T1
                    iexact Hr1
    isplitl [T3]; · iexact T3
    iexact Hm3
  iintro ⟨C1, HO⟩
  iapply (wp_done c)
  iapply Hk
  isplitr [HO Hx Hb]
  · isplitr [Hq]
    · unfold R2 invs
      iexists K
      isplitr
      · isplitr; · iexact I0
        isplitr; · iexact I1
        isplitr; · iexact I2
        isplitr; · iexact I3
        isplitr; · iexact I4
        isplitr; · iexact J0
        isplitr; · iexact J3
        iexact J4
      isplitl [HA]; · iexact HA
      isplitr
      · isplitr; · iexact Hr2
        iexact Hm4
      isplitl [T4 T2]; · isplitl [T4]; · iexact T4
                         iexact T2
      isplitl [C1 C3 C4]
      · isplitl [C1]; · iexact C1
        isplitl [C3]; · iexact C3
        iexact C4
      iexact Hd1
    iexact Hq
  isplitl [HO]; · iexact HO
  isplitl [Hx]; · iexact Hx
  iexact Hb

/-- The last point. -/
theorem last {Q : PUnit → sProp 𝕄} (h : t = t0_7) : at' m c t 7 b ⊢ iprop((at' m c t 8 (outAt m c) -∗ Q ⟨⟩) -∗ wpc c (bodyAt0 t) Q) := by
  have h7 : t.val = 7 := by rw [h]; rfl
  have n1 := mt (cond_pos t).1.mp (by omega)
  have n2 := mt (cond_pos t).2.1.mp (by omega)
  have n3 := (cond_pos t).2.2.mpr h7
  have hst : st0_1 t = Memref.whole cc0_stg1_0 := by subst h; rfl
  unfold at'
  rw [inv_second m c (by decide) (le_refl 7), inv_end, owe_second c (by decide) (le_refl 7), show oweAt c 8 = 0 from rfl]
  unfold bodyAt0
  simp only [cc0_body_eq_skeleton]; unfold cc0_body_skel
  simp only [k0_part1_eq_skeleton]; unfold k0_part1_skel
  simp only [dif_neg n1, dif_neg n2, dif_pos n3, semSignalWord, semWaitWord, Prog.lift, Prog.bind_op, Prog.bind_ret, Prog.pure_eq_ret, wp_deviceId]
  iintro ⟨⟨HX, Hp⟩, HO, Hx, Hb⟩ Hk
  iapply (wp_rows m c t 1 (by rw [h7]) (st0_0 t)) $$ [Hx Hp]
  · isplitl [Hx]; · iexact Hx
    rw [h7]; iexact Hp
  rw [h7]
  iintro ⟨Hx, Hp⟩
  subst h
  iapply (wp_last m c _ (Fin.ext (dev3_mate c)) b) $$ [HX Hp HO Hb]
  · isplitl [HX]; · iexact HX
    isplitl [Hp]; · iexact Hp
    isplitl [HO]; · iexact HO
    iexact Hb
  iintro ⟨Hz, Hw, HO, Hb⟩
  iapply Hk
  isplitl [Hz Hw]
  · isplitl [Hz]; · iexact Hz
    iexact Hw
  isplitl [HO]; · iexact HO
  isplitl [Hx]; · iexact Hx
  iexact Hb

end Cert.KernelIdeal.Run

end
-- ==== Proof.KernelIdeal.Region.lean ====
/-
# `Region`: the kernel call as one step of the program

The proof data of the pipeline, the body obligation at every point, and the record of the kernel call: entered with the
protocol's ghost state from the launch, left with the barrier's counter at zero.
-/
module

public import proofs.«01_k».proof.Proof.KernelIdeal.Body
public import Idealize.ShloMosaic.Lib.Pipeline.RegionTalk

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ)

local notation "𝕄" => MT nD τ sig Unit (Elt F) ℕ UU ℕ

/-! ## The proof data -/

/-- The pipeline's proof data on device `c`. -/
def dat (c : Dev nD) : Dat τ (Elt F) Unit ℕ UU ℕ cfg0 c where
  A w := V m c (Pipeline.arrRef spec0 w)
  after := fun | 0 => fun t => xblk m c t | 1 => fun _ => outAt m c
  Φ t := iprop(Inv m c t.val ∗ ∃ r, prngReg c r)
  q _ := fullShare
  owed t := oweAt c t.val

/-- Prefetched tables: there are none to restrict. -/
abbrev adm : (p : Fin 1) → (pcfgs (F := F) p).Adm := fun p => (cfgs p).toPCfg_adm
/-- The proof data of the one call. -/
def pdats : (p : Fin 1) → (c : Dev nD) → Dat τ (Elt F) Unit ℕ UU ℕ (Pipeline.pin (pcfgs (F := F)) adm p) c
  | 0 => dat m

/-- The debt before a point, as the pipeline states it. -/
theorem owesAt_intro (c : Dev nD) (t : Fin (cfg0.N + 1)) : (owing c (oweAt c t.val) : sProp 𝕄) ⊢ (dat m c).owesAt () t := by
  unfold owing Dat.owesAt Pipeline.owesWithin Dat.bound
  iintro ⟨%W, HO⟩
  iexists W
  isplitr; · ipureintro; exact fun _ _ => Or.inl trivial
  iexact HO

/-- The pipeline's statement of the debt gives ours back. -/
theorem owesAt_elim (c : Dev nD) (t : Fin (cfg0.N + 1)) : ((dat m c).owesAt () t : sProp 𝕄) ⊢ owing c (oweAt c t.val) := by
  unfold owing Dat.owesAt Pipeline.owesWithin
  iintro ⟨%W, -, HO⟩
  iexists W; iexact HO

/-- Before every point the staged block of `x` is that point's block. -/
theorem before_x (c : Dev nD) (t : Fin cfg0.N) (d) : (dat m c).before 0 t d = xblk m c t := by
  unfold Dat.before; rw [if_pos (fetch0_0 t)]; rfl

/-- One point, whatever it does: the result block is left as found before the last point. -/
theorem point (c : Dev nD) (t : Fin cfg0.N) (b : S32x128.Idx → F .f32) {Q : PUnit → sProp 𝕄} :
    at' m c t t.val b ⊢ iprop((at' m c t (t.val + 1) (if t.val = 7 then outAt m c else b) -∗ Q ⟨⟩) -∗ wpc c (bodyAt0 t) Q) := by
  by_cases h7 : t.val = 7
  · rw [if_pos h7, h7]; exact last m c t b (Fin.ext h7)
  rw [if_neg h7]
  by_cases h0 : t.val = 0
  · rw [h0]; exact first m c t b h0
  by_cases h3 : t.val = 3
  · rw [h3]; exact fourth m c t b h3
  exact plain m c t b h0 h3 h7

/-- The body obligation, at every point. -/
theorem body (c : Dev nD) : BodyObligation (dat m c) defs₀ 𝒱₀ () Set.univ := fun t => by
  show iprop((Inv m c t.val ∗ ∃ r, prngReg c r) ∗ (dat m c).owesAt () t.castSucc ∗ _)
    ⊢ wp frame (wpE defs₀ 𝒱₀ (c : Thread nD τ) none) Set.univ (bodyAt0 t) fun _ =>
      iprop((Inv m c (t.val + 1) ∗ ∃ r, prngReg c r) ∗ (dat m c).owesAt () t.succ ∗ _)
  rw [bigSep_W0, bigSep_W0]
  dsimp only
  iintro ⟨⟨HI, Hr⟩, HO, ⟨%d0, Hx⟩, %d1, Hb⟩
  ihave HO := (owesAt_elim m c t.castSucc) $$ HO
  rw [before_x]
  iapply (point m c t ((dat m c).before 1 t d1)) $$ [HI HO Hx Hb]
  · unfold at'
    isplitl [HI]; · iexact HI
    isplitl [HO]; · iexact HO
    isplitl [Hx]; · iexact Hx
    iexact Hb
  unfold at'
  iintro ⟨HI, HO, Hx, Hb⟩
  isplitl [HI Hr]
  · isplitl [HI]; · iexact HI
    iexact Hr
  isplitl [HO]; · iapply (owesAt_intro m c t.succ); iexact HO
  isplitl [Hx]; · iexact Hx
  by_cases h7 : t.val = 7
  · have hi : idle0 1 (grid0.coords t) = false := by
      show (!(k0_cond3 (grid0.coords t) == 1#1)) = false
      rw [(cond_pos t).2.2.mpr h7]; rfl
    rw [if_pos h7, hi]
    iexact Hb
  · have hi : idle0 1 (grid0.coords t) = true := by
      show (!(k0_cond3 (grid0.coords t) == 1#1)) = true
      rw [beq_eq_false_iff_ne.mpr (mt (cond_pos t).2.2.mp h7)]; rfl
    have hf : (win0 1).flush t = false := by
      have h8 : t.val < 8 := t.isLt
      exact Bool.eq_false_iff.mpr fun h => by have := (flush0_1 t).mp h; omega
    rw [if_neg h7, hi, hf]
    iexists d1; iexact Hb

/-! ## The record of the call -/

/-- The semaphores the kernel allocates. -/
abbrev osem (k : Fin 4) : SemLoc sig := csem k.succ

/-- The kernel's own semaphores are cells 1 to 4. -/
theorem ownSems_eq (c : Dev nD) : (Pipeline.ownSems0 osem c : sProp 𝕄)
    = iprop(semVal (cell c 1) 0 ∗ semVal (cell c 2) 0 ∗ semVal (cell c 3) 0 ∗ semVal (cell c 4) 0) :=
  Pipeline.ownSems0_eq_of_list (c := c) osem [0, 1, 2, 3] (by decide) (by decide)

/-- The right to open cell `k`. -/
abbrev opn (c : Dev nD) (k : Fin 5) : sProp 𝕄 := openTok ER (cell c k)

/-- What the launch keeps for the call. -/
def Tk (c : Dev nD) : sProp 𝕄 :=
  iprop(∃ K, invs m K c ∗ (at0 c 0 ∗ opn c 1 ∗ opn c 2 ∗ opn c 3 ∗ opn c 4) ∗ rch (mate c) 0
    ∗ (tok (mate c) 0 ∗ tok (mate c) 3 ∗ tok (mate c) 4 ∗ tok c 1 ∗ tok c 2) ∗ (crd c 0 ∗ crd c 3 ∗ crd c 4))

/-- The same once the kernel's own cells are open. -/
def Xk (c : Dev nD) : sProp 𝕄 :=
  iprop(∃ K, invs m K c ∗ (at0 c 0 ∗ at0 c 1 ∗ at0 c 2 ∗ at0 c 3 ∗ at0 c 4)
    ∗ (rch (mate c) 0 ∗ rch c 1 ∗ rch c 2 ∗ rch c 3 ∗ rch c 4)
    ∗ (tok (mate c) 0 ∗ tok (mate c) 3 ∗ tok (mate c) 4 ∗ tok c 1 ∗ tok c 2)
    ∗ (crd c 0 ∗ crd c 3 ∗ crd c 4) ∗ levAts L lv)

/-- What the call gives back to the launch: the barrier's counter at zero. -/
def Yk (c : Dev nD) : sProp 𝕄 := semVal (cell c 0) 0

/-- A dormant cell opens from its counter at zero. -/
theorem opens (κ : ℕ) (c : Dev nD) (k : Fin 5) :
    iprop(cellInv ER (Rd m) κ (cell c k) ∗ opn c k ∗ semVal (cell c k) 0) ⊢ (|={Set.univ}=> iprop(at0 c k ∗ rch c k) : sProp 𝕄) := by
  iintro ⟨#HI, Ho, Hs⟩
  imod (Rounds.cell_open ER (Rd m) (g := cell c k) (Set.mem_univ κ)) $$ [Ho Hs] with ⟨Ha, #Hr⟩
  · isplitr; · iexact HI
    isplitl [Ho]; · iexact Ho
    iexact Hs
  imodintro
  isplitl [Ha]; · iexact Ha
  iexact Hr

/-- The kernel opens its four cells as the call begins. -/
theorem hopen (c : Dev nD) : iprop(Tk m c ∗ Pipeline.ownSems0 osem c ∗ levAts L lv) ⊢ (|={Set.univ}=> Xk m c : sProp 𝕄) := by
  rw [ownSems_eq]
  unfold Tk Xk invs
  iintro ⟨⟨%K, ⟨#I0, #I1, #I2, #I3, #I4, #J0, #J3, #J4⟩, ⟨A0, O1, O2, O3, O4⟩, #Hm0, HT, HC⟩, ⟨S1, S2, S3, S4⟩, #Hlev⟩
  imod (opens m (K (cell c 1)) c 1) $$ [O1 S1] with ⟨A1, #Hr1⟩
  · isplitr; · iexact I1
    isplitl [O1]; · iexact O1
    iexact S1
  imod (opens m (K (cell c 2)) c 2) $$ [O2 S2] with ⟨A2, #Hr2⟩
  · isplitr; · iexact I2
    isplitl [O2]; · iexact O2
    iexact S2
  imod (opens m (K (cell c 3)) c 3) $$ [O3 S3] with ⟨A3, #Hr3⟩
  · isplitr; · iexact I3
    isplitl [O3]; · iexact O3
    iexact S3
  imod (opens m (K (cell c 4)) c 4) $$ [O4 S4] with ⟨A4, #Hr4⟩
  · isplitr; · iexact I4
    isplitl [O4]; · iexact O4
    iexact S4
  imodintro
  iexists K
  isplitr
  · isplitr; · iexact I0
    isplitr; · iexact I1
    isplitr; · iexact I2
    isplitr; · iexact I3
    isplitr; · iexact I4
    isplitr; · iexact J0
    isplitr; · iexact J3
    iexact J4
  isplitl [A0 A1 A2 A3 A4]
  · isplitl [A0]; · iexact A0
    isplitl [A1]; · iexact A1
    isplitl [A2]; · iexact A2
    isplitl [A3]; · iexact A3
    iexact A4
  isplitr
  · isplitr; · iexact Hm0
    isplitr; · iexact Hr1
    isplitr; · iexact Hr2
    isplitr; · iexact Hr3
    iexact Hr4
  isplitl [HT]; · iexact HT
  isplitl [HC]; · iexact HC
  iexact Hlev

/-- No row of a half is final before its first point. -/
theorem prog_intro (c : Dev nD) {h n : ℕ} (hn : n ≤ 4 * h) (f : S2x32x128.Idx → F .f32) : hpts c 0 h f ⊢ prog m c h n := by
  unfold prog
  iintro Hf
  iexists f
  isplitr
  · ipureintro
    intro j hj hlt
    have := (mem_half.mp hj).2
    omega
  iexact Hf

/-- Holding no buffers is holding nothing. -/
theorem held_empty (c : Dev nD) (W : Valuation τ sig (Elt F)) : (StableHlo.held (c : Thread nD τ) ∅ W : sProp 𝕄) = BI.emp := by
  unfold StableHlo.held; exact BI.bigSep_empty

/-- The one scoped buffer no window stages: the exchange buffer. -/
theorem rest_eq (c : Dev nD) : (Pipeline.scopedRest spec0 c : sProp 𝕄) = iprop(∃ f, whole c f) := scopedRest0_eq c

/-- The call's start gives the invariant before point 0. -/
theorem hin (c : Dev nD) (W : Valuation τ sig (Elt F)) :
    iprop(Pipeline.scopedRest (Pipeline.pin (pcfgs (F := F)) adm 0).spec c ∗ (∃ r, prngReg c r) ∗ StableHlo.held (c.tc : Thread nD τ) ∅ W ∗ Xk m c)
      ⊢ (pdats m 0 c).Φ 0 := by
  show iprop(Pipeline.scopedRest spec0 c ∗ _) ⊢ iprop(Inv m c 0 ∗ ∃ r, prngReg c r)
  rw [rest_eq, inv_start]
  unfold Xk R0 anyHalf
  iintro ⟨⟨%f, Hf⟩, Hr, -, %K, HI, HA, HR, HT, HC, HL⟩
  ihave Hw := (whole_split c f).1 $$ Hf
  icases Hw with ⟨⟨H00, H01⟩, H10, H11⟩
  isplitr [Hr]
  · isplitr [H00]
    · iexists K
      isplitl [HI]; · iexact HI
      isplitl [HA]; · iexact HA
      isplitl [HR]; · iexact HR
      isplitl [HT]; · iexact HT
      isplitl [HC]; · iexact HC
      isplitl [HL]; · iexact HL
      isplitl [H10 H11]
      · isplitl [H10]; · iexists f; iexact H10
        iexists f; iexact H11
      iapply (prog_intro m c (h := 1) (n := 4) (le_refl 4) f) $$ H01
    iapply (prog_intro m c (h := 0) (n := 0) (le_refl 0) f) $$ H00
  iexact Hr

/-- The invariant after point 7 gives the call's end: the scratch buffer and all counters at zero. -/
theorem hout (c : Dev nD) (W : Valuation τ sig (Elt F)) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ W
        ∗ Pipeline.ownSems0 osem c ∗ Yk c) := by
  show iprop(Inv m c 8 ∗ ∃ r, prngReg c r) ⊢ iprop(Pipeline.scopedRest spec0 c ∗ _)
  rw [rest_eq, inv_end, ownSems_eq, held_empty]
  unfold zeros Yk whole
  iintro ⟨⟨⟨Z0, Z1, Z2, Z3, Z4⟩, %f, Hf⟩, Hr⟩
  isplitl [Hf]; · iexists f; iexact Hf
  isplitl [Hr]; · iexact Hr
  isplitr; · iempintro
  isplitr [Z0]
  · isplitl [Z1]; · iexact Z1
    isplitl [Z2]; · iexact Z2
    isplitl [Z3]; · iexact Z3
    iexact Z4
  iexact Z0

/-- The result array after the call. -/
def res (c : Dev nD) : Buf (Elt F) ((c : Thread nD τ).loc main_v1) := (dat m c).arrAt 1 cfg0.N

/-- The buffers' contents after the call: the launch's, the result array apart. -/
def V' (c : Dev nD) : Valuation τ sig (Elt F) := Function.update (V0 m c) (Proc.devRef .tc main_v1) (res m c)

/-- The unscoped buffers no window is over. -/
abbrev Sr : Finset (DevRef τ sig) := Pipeline.ucRefs τ sig \ Pipeline.arrRefs (τ := τ) spec0

/-- The result array is one of the call's arrays. -/
theorem res_mem : (Proc.devRef .tc main_v1 : DevRef τ sig) ∈ Pipeline.arrRefs (τ := τ) spec0 :=
  Finset.mem_map_of_mem _ (Finset.mem_image.mpr ⟨1, Finset.mem_univ _, rfl⟩)

/-- The call changes no other buffer. -/
theorem V'_of_ne (c : Dev nD) {b : DevRef τ sig} (h : b ≠ Proc.devRef .tc main_v1) : V' m c b = V0 m c b := by
  unfold V'; exact Function.update_of_ne h _ _
/-- The call leaves the result array at `res`. -/
theorem V'_res (c : Dev nD) : V' m c (Proc.devRef .tc main_v1) = res m c := by
  unfold V'; exact Function.update_self _ _ _

/-- Whatever is owed is owed at a level above zero. -/
theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := oweAt_pos (c := c) (n := t.val) h

/-- The pipeline's staging semaphores are none of the protocol's. -/
theorem stage_kind : ∀ (w : Fin 2) (s : Fin (spec0 w).nbuf), kindOf (SemLoc.dma ((spec0 w).sem s) : SemLoc sig) = none := by decide

/-- The call's arrays start at the launch's contents. -/
theorem arr_start (c : Dev nD) : ∀ w : Fin cfg0.W, (dat m c).arrAt w 0 = V0 m c (Proc.devRef .tc (Pipeline.arrRef spec0 w)) := fun w => rfl

/-- The call's arrays end at the contents named `V'`. -/
theorem arr_end (c : Dev nD) : ∀ w : Fin cfg0.W, (dat m c).arrAt w cfg0.N = V' m c (Proc.devRef .tc (Pipeline.arrRef spec0 w)) := by
  intro w
  fin_cases w
  · refine ((dat m c).arrAt_in 0 rfl _).trans ?_
    exact (V'_of_ne m c (StableHlo.devRef_ne_of_ne (by decide : main_arg0 ≠ main_v1))).symm
  · exact (V'_res m c).symm

set_option backward.isDefEq.respectTransparency.types false in
/-- The call. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ Sr (Finset.empty_subset _) launch0.toP rfl (fun c => (body m c).loose)
    (fun _ => 0) owe3 (fun c => (zero_add _).symm) (fun c => rfl) (fun _ => rfl)
    (fun c w => by unfold Dat.share; split <;> rfl)
    (V0 m) (V' m)
    (fun c b hb => V'_of_ne m c fun h => (Finset.mem_sdiff.mp (Finset.mem_sdiff.mp hb).1).2 (h ▸ res_mem))
    (Tk m) Yk (Xk m) Yk (hopen m) (fun c => hin m c (V0 m c)) (fun c => hout m c (V' m c))
    (fun c => by iintro H; imodintro; iexact H)
    (fun _ => 0)
    ⟨fun c w s => L_tc c _, fun c w s => by
        show (kindOf (SemLoc.dma ((spec0 w).sem s) : SemLoc sig)).elim 0 lvk ≤ 0
        rw [stage_kind w s]; exact le_refl 0,
      fun c t g i h => cutD m c t g i h⟩
    (fun _ => iprop(emp))
    (fun c w => arr_start m c w) (fun c w => arr_end m c w)

end Cert.KernelIdeal.Run

end
-- ==== Proof.KernelIdeal.Launch.lean ====
/-
# `Launch`: the whole program from its initial state

The barrier cells are set up from their counters, the cells of the copies for the kernel to open; every duty's token goes
to the device that pays it. The program then runs as the kernel call followed by one reshape.
-/
module

public import proofs.«01_k».proof.Proof.KernelIdeal.Region

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

local notation "𝕄" => MT nD τ sig Unit (Elt F) ℕ UU ℕ

/-! ## The result array -/

/-- After the call the result array holds what the last point stored. -/
theorem res_eq (c : Dev nD) : res m c = outAt m c :=
  (dat m c).arrAt_eq_of_after_last 1 t0_7 (by decide +kernel) (outAt m c) fun j => rfl

/-! ## The buffers -/

/-- All buffers the launch hands out. -/
abbrev allRefs : Finset (DevRef τ sig) := Pipeline.ucRefs τ sig

/-- The launch's buffers, held all together. -/
theorem bufs_held (c : Dev nD) (W : Valuation τ sig (Elt F)) :
    (unscopedBufs c (fun b => W b) : sProp 𝕄) = StableHlo.held (c : Thread nD τ) allRefs W := by
  unfold unscopedBufs StableHlo.held
  show _ = bigSep ((StableHlo.tcRefs τ sig).filter _) _
  unfold StableHlo.tcRefs
  rw [Finset.filter_map, BI.bigSep_map]
  rfl

/-- The call's arrays are among the launch's buffers. -/
theorem arr_sub : Pipeline.arrRefs (τ := τ) spec0 ⊆ allRefs := Pipeline.arrRefs_sub_ucRefs spec0 (by decide)

/-- The buffers split into the call's arrays and the rest. -/
theorem held_split (c : Dev nD) (W : Valuation τ sig (Elt F)) : (StableHlo.held (c : Thread nD τ) allRefs W : sProp 𝕄)
    = iprop(StableHlo.held (c : Thread nD τ) (Pipeline.arrRefs (τ := τ) spec0) W ∗ StableHlo.held (c : Thread nD τ) Sr W) :=
  StableHlo.held_sub_split (c : Thread nD τ) arr_sub W

/-- The buffers one by one: argument, block, column. -/
theorem bufs_eq (c : Dev nD) (W : Valuation τ sig (Elt F)) : (StableHlo.held (c : Thread nD τ) allRefs W : sProp 𝕄)
    = iprop((((c : Thread nD τ).loc main_arg0) ↦{fullShare} W (Proc.devRef .tc main_arg0))
      ∗ (((c : Thread nD τ).loc main_v1) ↦{fullShare} W (Proc.devRef .tc main_v1))
      ∗ (((c : Thread nD τ).loc main_v2) ↦{fullShare} W (Proc.devRef .tc main_v2))) := by
  unfold StableHlo.held
  rw [bigSep_eq_bigSepL_of_eq [Proc.devRef .tc main_arg0, Proc.devRef .tc main_v1, Proc.devRef .tc main_v2] (by decide) (by decide)]
  rfl

/-- The buffers' contents at the end. -/
def VE (c : Dev nD) : Valuation τ sig (Elt F) := StableHlo.after hostOps1 (V' m c)

/-- The argument is unchanged. -/
theorem VE_arg (c : Dev nD) : VE m c (Proc.devRef .tc main_arg0) = m ((c : Thread nD τ).loc main_arg0) := by
  unfold VE hostOps1
  rw [StableHlo.after_cons, StableHlo.after_nil, StableHlo.reshape_result_ne (h := (by decide : main_arg0 ≠ main_v2))]
  exact V'_of_ne m c (StableHlo.devRef_ne_of_ne (by decide : main_arg0 ≠ main_v1))

/-- The result is the kernel's block, reshaped to a column. -/
theorem VE_res (c : Dev nD) :
    VE m c (Proc.devRef .tc main_v2) = shapeCast S4096x1 (outAt m c) shapeCasts_S32x128_S4096x1 := by
  unfold VE hostOps1
  rw [StableHlo.after_cons, StableHlo.after_nil, StableHlo.reshape_result, V'_res, res_eq]
  rfl

/-! ## The program as its segments -/

/-- What the call leaves besides the buffers. -/
def rest (c : Dev nD) : sProp 𝕄 := iprop(semVal (cell c 0) 0 ∗ ∃ W, owes (c : Thread nD τ) (0 : CellTallies nD τ sig Unit) W)

/-- The reshape works on the launch's buffers. -/
theorem ops_sub : ∀ op ∈ (hostOps1 : List (HloOp τ sig (Elt F))), op.bufs ⊆ allRefs := by
  intro op hop
  obtain rfl := List.mem_singleton.mp hop
  exact (by decide : ({Proc.devRef .tc main_v1, Proc.devRef .tc main_v2} : Finset (DevRef τ sig)) ⊆ allRefs)

/-- The reshape allocates nothing. -/
theorem ops_fresh : ∀ op ∈ (hostOps1 : List (HloOp τ sig (Elt F))), op.fresh = ∅ := by
  intro op hop
  obtain rfl := List.mem_singleton.mp hop
  rfl

/-- The reshape after the call. -/
def tail : Pipeline.HostSeg (Ix := Unit) (Name := ℕ) (U := UU) (Lvl := ℕ) (pcfgs (F := F)) defs₀ 𝒱₀ L lv :=
  Pipeline.HostSeg.ofOps (pcfgs (F := F)) defs₀ 𝒱₀ L lv allRefs hostOps1 ops_sub ops_fresh (V' m) rest

/-- The program: the call, then the reshape. -/
def segs : List (Pipeline.Seg (pcfgs (F := F)) adm (pdats m) () defs₀ 𝒱₀ L lv) := [.region (reg m), .host (tail m)]

/-- The program is its segments run in order. -/
theorem segs_run (c : Dev nD) : main (F := F) c = Pipeline.Seg.run (segs m) :=
  main_segs adm (pdats m) () 𝒱₀ L lv (tail m) (reg m) rfl c

/-- What the program starts from on device `c`. -/
def T0 (c : Dev nD) : sProp 𝕄 :=
  iprop(StableHlo.held (c : Thread nD τ) allRefs (V0 m c) ∗ (∃ r, prngReg c r) ∗ Tk m c ∗ ∃ W, owes (c : Thread nD τ) (owe3 c) W)

/-- What it ends with. -/
def TE (c : Dev nD) : sProp 𝕄 := iprop(StableHlo.held (c : Thread nD τ) allRefs (VE m c) ∗ semVal (cell c 0) 0)

/-- The program's start is the call's. -/
theorem reg_pre (c : Dev nD) : T0 m c ⊢ (reg m).pre c := by
  show _ ⊢ iprop(StableHlo.held (c : Thread nD τ) (Pipeline.arrRefs (τ := τ) spec0) (V0 m c) ∗ (∃ r, prngReg c r)
    ∗ (StableHlo.held (c : Thread nD τ) Sr (V0 m c) ∗ emp) ∗ Tk m c ∗ ∃ Wd, owes (c : Thread nD τ) (0 + owe3 c) Wd)
  unfold T0
  rw [held_split, zero_add]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- The call's end is the reshape's start. -/
theorem reg_post (c : Dev nD) : (reg m).post c ⊢ (tail m).pre c := by
  show iprop(StableHlo.held (c : Thread nD τ) (Pipeline.arrRefs (τ := τ) spec0) (V' m c) ∗ (∃ r, prngReg c r)
    ∗ (StableHlo.held (c : Thread nD τ) Sr (V' m c) ∗ emp) ∗ Yk c ∗ ∃ Wd, owes (c : Thread nD τ) (0 : CellTallies nD τ sig Unit) Wd)
    ⊢ iprop(StableHlo.held (c : Thread nD τ) allRefs (V' m c) ∗ rest c)
  unfold rest Yk
  rw [held_split]
  iintro ⟨Ha, -, ⟨Hr, -⟩, Hs, HO⟩
  isplitl [Ha Hr]
  · isplitl [Ha]; · iexact Ha
    iexact Hr
  isplitl [Hs]; · iexact Hs
  iexact HO

/-- The reshape's end is the program's. -/
theorem tail_post (c : Dev nD) : (tail m).post c ⊢ iprop(TE m c ∗ ∃ W, owes (c : Thread nD τ) (0 : CellTallies nD τ sig Unit) W) := by
  show iprop(StableHlo.held (c : Thread nD τ) allRefs (VE m c) ∗ rest c) ⊢ _
  unfold rest TE
  iintro ⟨Hh, Hs, HO⟩
  isplitr [HO]
  · isplitl [Hh]; · iexact Hh
    iexact Hs
  iexact HO

/-! ## The launch's ghost state -/

/-- The barrier cell of every device. -/
def live : Finset (GSem nD τ sig) := Finset.univ.map ⟨fun c : Dev nD => cell c 0, fun _ _ h => (cell_eq h).1⟩
/-- The cells of the copies of every device. -/
def dormant : Finset (GSem nD τ sig) :=
  Finset.univ.map ⟨fun x : Dev nD × Fin 4 => cell x.1 x.2.succ, fun _ _ h => Prod.ext (cell_eq h).1 (Fin.succ_injective _ (cell_eq h).2)⟩
/-- One token per cell. -/
def allToks : Finset (GSem nD τ sig × ℕ × Unit) :=
  Finset.univ.map ⟨fun x : Dev nD × Fin 5 => (cell x.1 x.2, 0, ()), fun _ _ h => Prod.ext (cell_eq (congrArg Prod.fst h)).1 (cell_eq (congrArg Prod.fst h)).2⟩

/-- No cell is both live and dormant. -/
theorem live_disj : Disjoint live dormant := by
  rw [Finset.disjoint_left]
  rintro g h1 h2
  obtain ⟨c, -, rfl⟩ := Finset.mem_map.mp h1
  obtain ⟨x, -, h⟩ := Finset.mem_map.mp h2
  exact Fin.succ_ne_zero x.2 (cell_eq h).2

/-- Every cell of the protocol is live or dormant. -/
theorem cell_mem (c : Dev nD) (k : Fin 5) : cell c k ∈ live ∪ dormant := by
  refine Fin.cases ?_ (fun j => ?_) k
  · exact Finset.mem_union_left _ (Finset.mem_map.mpr ⟨c, Finset.mem_univ _, rfl⟩)
  · exact Finset.mem_union_right _ (Finset.mem_map.mpr ⟨(c, j), Finset.mem_univ _, rfl⟩)

/-- The ghost element of the launch. -/
def u₀ : UU :=
  (initOf (Pipeline.cells (Pipeline.pin (pcfgs (F := F)) adm) cellOf_inj) (Pipeline.launchToks (Pipeline.pin (pcfgs (F := F)) adm) cellOf_inj),
    launchOf live dormant allToks)

/-- The exchange's share of it, kept by device 0 until the cells are set up. -/
def G (c : Dev nD) : sProp 𝕄 := if c = 0 then BI.own (ER (launchOf live dormant allToks)) else iprop(emp)

/-- All devices' shares together are the exchange's ghost element. -/
theorem G_all : bigSep Finset.univ (G (F := F)) = (BI.own (ER (launchOf live dormant allToks)) : sProp 𝕄) := by
  rw [bigSep_univ_at _ (0 : Dev nD), bigSep_congr (s := Finset.univ.erase (0 : Dev nD)) (Ψ := fun _ => (BI.emp : sProp 𝕄))
    fun c hc => by unfold G; exact if_neg (Finset.ne_of_mem_erase hc), BI.bigSep_emp_const]
  unfold G; rw [if_pos rfl]
  exact BI.equiv_iff.mp sep_emp

/-- What every device may consult: all the cells' invariants, and round 0 of every barrier cell. -/
def known (κ : GSem nD τ sig → ℕ) : sProp 𝕄 :=
  iprop((bigSep (live ∪ dormant) fun g => cellInv ER (Rd m) (κ g) g) ∗ bigSep live fun g => reached ER g 0)

/-- What every device may consult may be used again and again. -/
instance known_persistent (κ : GSem nD τ sig → ℕ) : BI.Persistent (known m κ) := by unfold known; infer_instance

/-- From what is known, the invariant of any cell. -/
theorem known_inv (κ : GSem nD τ sig → ℕ) (c : Dev nD) (k : Fin 5) :
    (bigSep (live ∪ dormant) fun g => (cellInv ER (Rd m) (κ g) g : sProp 𝕄)) ⊢ inv m κ c k := bigSep_elim (cell_mem c k)

/-- From what is known, that any barrier cell has reached round 0. -/
theorem known_rch (c : Dev nD) : (bigSep live fun g => (reached ER g 0 : sProp 𝕄)) ⊢ rch c 0 :=
  bigSep_elim (Finset.mem_map.mpr ⟨c, Finset.mem_univ _, rfl⟩)

/-- The tokens device `c` spends. -/
def spends (c : Dev nD) : sProp 𝕄 :=
  iprop(tok (mate c) 0 ∗ tok c 1 ∗ tok c 2 ∗ tok (mate c) 3 ∗ tok (mate c) 4)

/-- All tokens, dealt to the devices that spend them. -/
theorem toks_dealt : bigSep allToks (fun x => (dutyTok ER x.1 x.2.1 x.2.2 : sProp 𝕄)) = bigSep Finset.univ fun c : Dev nD => spends c := by
  have five : ∀ Φ : Fin 5 → sProp 𝕄, bigSep Finset.univ Φ = iprop(Φ 0 ∗ Φ 1 ∗ Φ 2 ∗ Φ 3 ∗ Φ 4) := fun Φ => by
    rw [bigSep_eq_bigSepL_of_eq [0, 1, 2, 3, 4] (by decide) (by decide)]; rfl
  have own : bigSep allToks (fun x => (dutyTok ER x.1 x.2.1 x.2.2 : sProp 𝕄))
      = bigSep Finset.univ fun c : Dev nD => iprop(tok c 0 ∗ tok c 1 ∗ tok c 2 ∗ tok c 3 ∗ tok c 4) := by
    unfold allToks; rw [bigSep_map, bigSep_univ_prod]
    exact bigSep_congr fun c _ => five fun k => tok c k
  rw [own]
  unfold spends
  rw [bigSep_sep', bigSep_sep', bigSep_sep', bigSep_sep', bigSep_sep', bigSep_sep', bigSep_sep', bigSep_sep', bigSep_univ_equiv swap (fun c : Dev nD => (tok c 0 : sProp 𝕄)), bigSep_univ_equiv swap (fun c : Dev nD => (tok c 3 : sProp 𝕄)),
    bigSep_univ_equiv swap (fun c : Dev nD => (tok c 4 : sProp 𝕄))]
  rfl

/-- The rights to open dormant cells, dealt to their devices. -/
theorem opens_dealt : bigSep dormant (fun g => (openTok ER g : sProp 𝕄))
    = bigSep Finset.univ fun c : Dev nD => iprop(opn c 1 ∗ opn c 2 ∗ opn c 3 ∗ opn c 4) := by
  unfold dormant; rw [bigSep_map, bigSep_univ_prod]
  refine bigSep_congr fun c _ => ?_
  rw [bigSep_eq_bigSepL_of_eq [0, 1, 2, 3] (by decide) (by decide)]; rfl

/-! ## Credit for the waits -/

/-- A tally at one cell, read at another. -/
theorem tally_apply (c d : Dev nD) (k k' : Fin 5) (n : ℕ) :
    (tallyAt (cell d k') () n : CellTallies nD τ sig Unit) (cell c k) () = if d = c ∧ k' = k then n else 0 := by
  rw [tallyAt_apply]
  by_cases h : d = c ∧ k' = k
  · obtain ⟨rfl, rfl⟩ := h; rw [if_pos ⟨rfl, rfl⟩, if_pos ⟨rfl, rfl⟩]
  · rw [if_neg h, if_neg fun h' => h ⟨((cell_eq h'.1).1).symm, ((cell_eq h'.1).2).symm⟩]

/-- Only the partner owes the barrier and receive cells, and each exactly what the wait takes. -/
theorem owed_by (d c : Dev nD) (k : Fin 5) (hk : k = 0 ∨ k = 3 ∨ k = 4) :
    owe3 d (cell c k) () = if d = mate c then amt k else 0 := by
  unfold owe3 owe2 owe1
  rw [Pi.add_apply, Finsupp.add_apply, Pi.add_apply, Finsupp.add_apply, tally_apply, tally_apply, tally_apply]
  have e : mate d = c ↔ d = mate c := ⟨fun h => h ▸ (mate_mate d).symm, fun h => h ▸ mate_mate c⟩
  simp only [e]
  by_cases h : d = mate c
  · rcases hk with rfl | rfl | rfl <;> simp [h, amt]
  · simp [h]

/-- The launch's credit at a cell that the partner pays is exactly what the wait takes. -/
theorem credit_eq (c : Dev nD) (k : Fin 5) (hk : k = 0 ∨ k = 3 ∨ k = 4) :
    tallyOn (cell c k) (launchCredit (Pipeline.owing owe3) 0 (cell c k)) = (tallyAt (cell c k) () (amt k) : CellTallies nD τ sig Unit) := by
  unfold tallyAt
  refine congrArg _ (Finsupp.ext fun u => ?_)
  cases u
  rw [Pipeline.launchCredit_owing, Finsupp.single_eq_same, Finset.sum_congr rfl fun d _ => owed_by d c k hk,
    Finset.sum_ite_eq' Finset.univ (mate c) fun _ => amt k, if_pos (Finset.mem_univ _)]

/-- The launch's credit gives the three waits theirs. -/
theorem credits (c : Dev nD) : (Pipeline.launchCred owe3 c : sProp 𝕄) ⊢ iprop(crd c 0 ∗ crd c 3 ∗ crd c 4) := by
  unfold Pipeline.launchCred
  rw [bigSep_univ_at _ (csem 0)]
  unfold crd
  rw [← credit_eq c 0 (.inl rfl), ← credit_eq c 3 (.inr (.inl rfl)), ← credit_eq c 4 (.inr (.inr rfl))]
  refine sep_mono_right ?_
  rw [BI.bigSep_erase (i := csem 3) (by decide)]
  exact sep_mono_right (bigSep_elim (by decide))

/-! ## From the launch to the first segment -/

/-- Device `c`'s own part of the launch. -/
def own0 (c : Dev nD) : sProp 𝕄 :=
  iprop(StableHlo.held (c : Thread nD τ) allRefs (V0 m c) ∗ (crd c 0 ∗ crd c 3 ∗ crd c 4)
    ∗ owes (c : Thread nD τ) (owe3 c) ∅ ∗ ∃ r, prngReg c r)

/-- A device's dealt parts make the program's start. -/
theorem start_intro (κ : GSem nD τ sig → ℕ) (c : Dev nD) :
    iprop(known m κ ∗ (at0 c 0 ∗ (opn c 1 ∗ opn c 2 ∗ opn c 3 ∗ opn c 4) ∗ spends c) ∗ own0 m c) ⊢ T0 m c := by
  unfold known own0 T0 Tk invs spends
  iintro ⟨⟨#HI, #HR⟩, ⟨Ha, Ho, T0, T1, T2, T3, T4⟩, Hh, HC, HO, Hp⟩
  isplitl [Hh]; · iexact Hh
  isplitl [Hp]; · iexact Hp
  isplitr [HO]
  · iexists κ
    isplitr
    · isplitr; · iapply (known_inv m κ c 0); iexact HI
      isplitr; · iapply (known_inv m κ c 1); iexact HI
      isplitr; · iapply (known_inv m κ c 2); iexact HI
      isplitr; · iapply (known_inv m κ c 3); iexact HI
      isplitr; · iapply (known_inv m κ c 4); iexact HI
      isplitr; · iapply (known_inv m κ (mate c) 0); iexact HI
      isplitr; · iapply (known_inv m κ (mate c) 3); iexact HI
      iapply (known_inv m κ (mate c) 4); iexact HI
    isplitl [Ha Ho]
    · isplitl [Ha]; · iexact Ha
      iexact Ho
    isplitr; · iapply (known_rch (F := F) (mate c)); iexact HR
    isplitr [HC]
    · isplitl [T0]; · iexact T0
      isplitl [T3]; · iexact T3
      isplitl [T4]; · iexact T4
      isplitl [T1]; · iexact T1
      iexact T2
    iexact HC
  iexists ∅; iexact HO

/-- The launch hands out one counter per device, the barrier's. -/
theorem sems_eq (c : Dev nD) : (unscopedSems0 c : sProp 𝕄) = semVal (cell c 0) 0 := by
  unfold unscopedSems0
  rw [show (Finset.univ.filter fun sm : SemLoc sig => ¬ sm.isScoped .tc) = {csem 0} from by decide, BI.bigSep_singleton]

/-- What the launch deals one device. -/
def deal (c : Dev nD) : sProp 𝕄 :=
  iprop(unscopedBufs c (fun b => m ((c : Thread nD τ).loc b)) ∗ unscopedSems0 c
    ∗ owes (c : Thread nD τ) (owe3 c) ∅ ∗ Pipeline.launchCred owe3 c ∗ prngReg c (ρ c) ∗ G c)

/-- What one device is dealt, sorted. -/
theorem deal_split (c : Dev nD) : deal m ρ c ⊢ iprop(own0 m c ∗ semVal (cell c 0) 0 ∗ G c) := by
  unfold deal own0
  rw [show unscopedBufs c (fun b => m ((c : Thread nD τ).loc b)) = (StableHlo.held (c : Thread nD τ) allRefs (V0 m c) : sProp 𝕄) from bufs_held c (V0 m c),
    sems_eq]
  iintro ⟨Hh, Hs, HO, Hc, Hp, HG⟩
  ihave Hc := (credits (F := F) c) $$ Hc
  isplitr [Hs HG]
  · isplitl [Hh]; · iexact Hh
    isplitl [Hc]; · iexact Hc
    isplitl [HO]; · iexact HO
    iexists (ρ c); iexact Hp
  isplitl [Hs]; · iexact Hs
  iexact HG

/-- The same for all devices at once. -/
theorem deal_all : (bigSep Finset.univ fun c : Dev nD => deal m ρ c)
    ⊢ bigSep Finset.univ fun c : Dev nD => iprop(own0 m c ∗ semVal (cell c 0) 0 ∗ G c) :=
  bigSep_mono fun c _ => deal_split m ρ c

/-- All devices' first thread states, from everything the launch deals. -/
theorem init : iprop((bigSep Finset.univ fun c : Dev nD => deal m ρ c) ∗ levAts L lv) ⊢ (|={Set.univ}=> bigSep Finset.univ (T0 m) : sProp 𝕄) := by
  have hv : bigSep Finset.univ (fun c : Dev nD => (semVal (cell c 0) 0 : sProp 𝕄)) = bigSep live (fun g => (semVal g 0 : sProp 𝕄)) := by
    unfold live; rw [bigSep_map]; rfl
  have ha : bigSep live (fun g => (atPos ER g 0 ∅ 0 : sProp 𝕄)) = bigSep Finset.univ (fun c : Dev nD => (at0 c 0 : sProp 𝕄)) := by
    unfold live; rw [bigSep_map]; rfl
  iintro ⟨H, -⟩
  ihave H := (deal_all m ρ) $$ H
  ihave H := (Entails.of_eq (bigSep_sep' _ _ _)) $$ H
  icases H with ⟨HB, H⟩
  ihave H := (Entails.of_eq (bigSep_sep' _ _ _)) $$ H
  icases H with ⟨Hv, HG⟩
  imod (Rounds.fund_launch ER (Rd m) live_disj (fun g _ h => h) allToks) $$ [Hv HG] with ⟨%κ, -, #Hinv, #Hr, Hat, Hopen, Htok⟩
  · isplitl [Hv]
    · iapply (Entails.of_eq hv) $$ Hv
    · iapply (Entails.of_eq (G_all (F := F))) $$ HG
  imodintro
  iapply (bigSep_with_persistent (R := known m κ)
    (Φ := fun c => iprop((at0 c 0 ∗ (opn c 1 ∗ opn c 2 ∗ opn c 3 ∗ opn c 4) ∗ spends c) ∗ own0 m c)) fun c _ => start_intro m κ c)
  isplitr
  · unfold known
    isplitr; · iexact Hinv
    iexact Hr
  iapply (Entails.of_eq (bigSep_sep' _ _ _).symm)
  isplitr [HB]
  · iapply (Entails.of_eq (bigSep_sep' _ _ _).symm); isplitl [Hat]; · iapply (Entails.of_eq ha) $$ Hat
    iapply (Entails.of_eq (bigSep_sep' _ _ _).symm); isplitl [Hopen]; · iapply (Entails.of_eq (opens_dealt (F := F))) $$ Hopen
    iapply (Entails.of_eq (toks_dealt (F := F))) $$ Htok
  · iexact HB

/-- The barrier is the only semaphore that outlives the call. -/
theorem unscoped_sem : ∀ sm : SemLoc sig, sm.isScoped .tc = false → sm = csem 0 := by decide

set_option backward.isDefEq.respectTransparency.types false in
/-- From any memory with zero counters every run ends with the argument unchanged on every device, the result array holding
    the kernel's block reshaped to a column, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = shapeCast S4096x1 (outAt m c) shapeCasts_S32x128_S4096x1)
      ∧ r.2.sem = fun _ => 0) :=
  Pipeline.θ_run_regions_kit_sems (pcfgs (F := F)) adm (pdats m) () cellOf_inj EP defs₀ 𝒱₀ L lv m ρ main (segs m)
    (fun c Q => by rw [segs_run m c])
    (by simp only [segs, Pipeline.Seg.pipes_host, Pipeline.Seg.pipes_region, Pipeline.Seg.pipes_nil]; decide)
    (O₀ := owe3) (hL := L_of_ne) (G := G) (u₀ := u₀)
    (hu₀ := by
      unfold u₀
      rw [G_all]
      iintro Hu
      ihave H := (ownU_pair _ _) $$ Hu
      icases H with ⟨HP, HX⟩
      imodintro
      isplitl [HP]; · iexact HP
      iexact HX)
    (T₀ := T0 m) (Tₙ := TE m)
    (hch := ⟨fun c => reg_pre m c, fun c => reg_post m c, fun c => tail_post m c⟩)
    (hinit := init m ρ)
    (QY := fun c s => (s.mem ((c : Thread nD τ).loc main_arg0) = VE m c (Proc.devRef .tc main_arg0)
      ∧ s.mem ((c : Thread nD τ).loc main_v2) = VE m c (Proc.devRef .tc main_v2)) ∧ s.sem (cell c 0) = 0)
    (hfin := fun c s' => by
      unfold TE; rw [bufs_eq]
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => by
        obtain ⟨⟨hx, hy⟩, -⟩ := h c
        exact ⟨hx.trans (VE_arg m c), hy.trans (VE_res m c)⟩,
      sem_eq_zero hs fun c sm hsm => by
        obtain rfl := unscoped_sem sm hsm
        exact (h c).2⟩)

end Cert.KernelIdeal.Run

end
-- ==== Proof.Same.lean ====
/-
# `Same`: the kernel's two texts are one program

The kernel is printed twice, once for bit patterns and once for extended reals. No operation was rewritten, so the two
texts say the same; what `KernelIdeal` was proved to do at any instance holds of `Kernel` at bit patterns.
-/
module

public import proofs.«01_k».proof.Defs
public import proofs.«01_k».proof.Proof.Gen.Kernel
public import proofs.«01_k».proof.Proof.KernelIdeal.Launch

@[expose] public section

noncomputable section

namespace Cert.Proof

open Idealize.ShloMosaic Idealize.SL.Sem

/-- The two texts' kernel bodies agree. -/
theorem bodies_eq : Cert.Kernel.defs₀ (F := Bits) = Cert.KernelIdeal.defs₀ (F := Bits) := by
  unfold Cert.Kernel.defs₀ Cert.KernelIdeal.defs₀
  refine congrArg (Defs.onTc (nD := 4)) ?_
  funext ℓ x
  match ℓ, x with
  | 0, (t, s) => rfl

/-- The two texts' tables agree. -/
theorem defs_eq : Cert.Kernel.defs (F := Bits) = Cert.KernelIdeal.defs (F := Bits) :=
  congrArg (Pipeline.defs (Cert.KernelIdeal.pcfgs (F := Bits))) bodies_eq

/-- So what every run of one ends with, every run of the other does. -/
theorem quiescent_kernel : Cert.quiescent_Kernel (hKernel := Cert.Kernel.Gen.facts) := fun m g _ => by
  rw [defs_eq]
  refine (θ_run Cert.KernelIdeal.defs (onTc (τ := Cert.KernelIdeal.τ) (Cert.KernelIdeal.main (F := Bits))) ⟨m, fun _ => 0, g⟩).mono
    (fun r h => ?_) (Cert.KernelIdeal.Run.run_main (F := Bits) m g)
  exact ⟨fun c => (h.1 c).1, h.2⟩

end Cert.Proof

end
-- ==== Proof.KernelIdeal.Value.lean ====
/-
# `Value`: the kernel's result over the extended reals

Entry `i` of a device's column is the sum of row `i` of its own block of `x` plus the sum of row `i` of the partner's
block, times 2^-11.
-/
module

public import proofs.«01_k».proof.Proof.KernelIdeal.Launch
public import Idealize.ShloMosaic.Lib.Pointwise
public import Idealize.ShloMosaic.Lib.IdealHost

@[expose] public section

noncomputable section

namespace Cert.KernelIdeal.Run

open Cert.KernelIdeal Cert.KernelIdeal.Gen
open Idealize.ShloMosaic Idealize.ShloMosaic.TcCoe

variable (m : (ℓ : Loc nD τ sig) → Buf (Elt Ideal) ℓ)

/-- Device `c`'s block of `x`. -/
abbrev xOn (c : Dev nD) : S4096x1024.Idx → EReal := m ((c : Thread nD τ).loc main_arg0)

/-- The sum of row `i` of device `c`'s block. -/
def rowSum (c : Dev nD) (i : Fin 4096) : EReal := ∑ k : Fin 1024, xOn m c (ix2 i k)

/-- What one grid point stores at (r, l): the sum of row 128 r + l of its block. -/
theorem pay1_apply (v : Vec Ideal S512x1024 .f32) (r : Fin 4) (l : Fin 128) :
    k0_pay1 v (ix3 0 r l) = ∑ k : Fin 1024, v (ix2 ⟨r.val * 128 + l.val, by omega⟩ k) := by
  unfold k0_pay1
  pointwise

/-- The last point adds the two slabs and scales. -/
theorem pay2_apply (v w : Vec Ideal S1x32x128 .f32) (r : Fin 32) (l : Fin 128) :
    k0_pay2 v w (ix2 r l) = (v (ix3 0 r l) + w (ix3 0 r l)) * Ideal.ofBits .f32 0x3A000000#32 := by
  unfold k0_pay2
  pointwise

/-- Point `t`'s block of `x` starts at row 512 t. -/
theorem off_row : ∀ t : Fin cfg0.N, (win0_0.rect t).off 0 = 512 * t.val := by decide +kernel
/-- Point `t`'s block of `x` starts at column 0. -/
theorem off_col : ∀ t : Fin cfg0.N, (win0_0.rect t).off 1 = 0 := by decide +kernel

/-- The block of grid point `t` is rows 512 t to 512 t + 511 of the device's `x`. -/
theorem xblk_apply (c : Dev nD) (t : Fin cfg0.N) (p : Fin 512) (k : Fin 1024) (i : Fin 4096) (hi : i.val = 512 * t.val + p.val) :
    xblk m c t (ix2 p k) = xOn m c (ix2 i k) := by
  unfold xblk iblk
  blk_simp
  rw [V_main_arg0]
  show xOn m c _ = _
  congr 1
  funext a
  fin_cases a
  · refine Fin.ext ?_
    show (win0_0.rect t).off 0 + 1 * p.val = i.val
    rw [off_row, hi]; omega
  · refine Fin.ext ?_
    show (win0_0.rect t).off 1 + 1 * k.val = k.val
    rw [off_col]; omega

/-- Slab 0 holds row sum 128 r + l of the device's block at (r, l). -/
theorem rowAt_eq (c : Dev nD) (r : Fin 32) (l : Fin 128) :
    rowAt m c r l = rowSum m c ⟨128 * r.val + l.val, by omega⟩ := by
  unfold rowAt rowSum
  refine (congrArg (k0_pay1 (xblk m c (ptOf r))) (eq_ix3 _)).trans ((pay1_apply _ ⟨r.val % 4, Nat.mod_lt _ (by decide)⟩ l).trans ?_)
  refine Finset.sum_congr rfl fun k _ => xblk_apply m c (ptOf r) _ k _ ?_
  show 128 * r.val + l.val = 512 * (r.val / 4) + (r.val % 4 * 128 + l.val)
  omega

/-- The read of slab 0 at (0, r, l). -/
theorem read_slab0 (f : S2x32x128.Idx → Ideal .f32) (r : Fin 32) (l : Fin 128) :
    comm.view.readAt (Elt Ideal) slab0.toLoadRect f (ix3 0 r l) = f (ix3 0 r l) := by
  show f _ = f _
  congr 1; funext a; apply Fin.ext
  show (![0, 0, 0] : Fin 3 → ℕ) a + 1 * ((ix3 0 r l : S1x32x128.Idx) a).val = ((ix3 0 r l : S2x32x128.Idx) a).val
  fin_cases a <;> simp

/-- The read of slab 1 at (0, r, l). -/
theorem read_slab1 (f : S2x32x128.Idx → Ideal .f32) (r : Fin 32) (l : Fin 128) :
    comm.view.readAt (Elt Ideal) slab1.toLoadRect f (ix3 0 r l) = f (ix3 1 r l) := by
  show f _ = f _
  congr 1; funext a; apply Fin.ext
  show (![1, 0, 0] : Fin 3 → ℕ) a + 1 * ((ix3 0 r l : S1x32x128.Idx) a).val = ((ix3 1 r l : S2x32x128.Idx) a).val
  fin_cases a <;> simp

/-- The device's result block at (r, l). -/
theorem outAt_apply (c : Dev nD) (r : Fin 32) (l : Fin 128) :
    outAt m c (ix2 r l) = (rowAt m c r l + rowAt m (mate c) r l) * Ideal.ofBits .f32 0x3A000000#32 := by
  unfold outAt
  rw [pay2_apply, read_slab0, read_slab1]
  rfl

/-- The column the program returns, at row `i`. -/
theorem column_apply (c : Dev nD) (i : Fin 4096) :
    shapeCast S4096x1 (outAt m c) shapeCasts_S32x128_S4096x1 (ix2 i 0)
      = (rowSum m c i + rowSum m (mate c) i) * Ideal.ofBits .f32 0x3A000000#32 := by
  have e : shapeCast S4096x1 (outAt m c) shapeCasts_S32x128_S4096x1 (ix2 i 0)
      = outAt m c (ix2 ⟨i.val / 128, by omega⟩ ⟨i.val % 128, Nat.mod_lt _ (by decide)⟩) := by pointwise
  rw [e, outAt_apply, rowAt_eq, rowAt_eq]
  have h : (⟨128 * (i.val / 128) + i.val % 128, by omega⟩ : Fin 4096) = i := Fin.ext (Nat.div_add_mod _ _)
  exact congrArg (fun j => (rowSum m c j + rowSum m (mate c) j) * Ideal.ofBits .f32 0x3A000000#32) h

end Cert.KernelIdeal.Run

end
-- ==== Proof.Mean.Reference.lean ====
/-
# `Reference`: the reference over the extended reals

Entry `j` of the reference's column is the sum of row `j` of the whole `x`, divided by 2048.
-/
module

public import proofs.«01_k».proof.Proof.Gen.ReferenceIdeal.Run
public import Idealize.ShloMosaic.Lib.Quiescent
public import Idealize.ShloMosaic.Lib.Pointwise
public import Idealize.ShloMosaic.Lib.IdealHost

@[expose] public section

noncomputable section

namespace Cert.ReferenceIdeal.Mean

open Cert.ReferenceIdeal Cert.ReferenceIdeal.Gen
open Idealize.ShloMosaic Idealize.ShloMosaic.TcCoe Idealize.SL.Sem

/-- The reference's column as a function of the whole `x`. -/
def column (x : S8192x2048.Idx → Ideal .f32) : S8192x1.Idx → Ideal .f32 :=
  Host.divf (broadcastInDim S8192x1 ![0] bcast_S8192_S8192x1_0 (Host.reduceAdd x (constant S_ .f32 0x00000000#32) reducesTo_S8192x2048_S8192_d1 h_S_))
    (broadcastInDim S8192x1 ![] bcast_S_S8192x1 (constant S_ .f32 0x45000000#32))

/-- The column at row `j`: the row's sum over 2048. -/
theorem column_apply (x : S8192x2048.Idx → EReal) (j : Fin 8192) :
    column x (ix2 j 0) = Ideal.div (∑ k : Fin 2048, x (ix2 j k)) (Ideal.ofBits .f32 0x45000000#32) := by
  unfold column
  pointwise

/-- Every run of the reference ends with the column of its argument, the argument unchanged, all semaphores at zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_v3) = column (m ((c : Thread nD τ).loc main_arg0))
      ∧ r.2.mem ((c : Thread nD τ).loc main_arg0) = m ((c : Thread nD τ).loc main_arg0)) ∧ r.2.sem = fun _ => 0 :=
  (θ_run defs _ _).mono (fun r h => ⟨h, sem_eq_zero_of_no_sems (by decide) r.2⟩) (Value.run m ρ)

end Cert.ReferenceIdeal.Mean

end
-- ==== Proof.Mean.Equation.lean ====
/-
# `Equation`: the kernel's columns are the blocks of the reference's column

A whole row has 2048 entries; a device and its partner hold 1024 each, in either order. Multiplying by the literal
2^-11 is dividing by the literal 2048.
-/
module

public import proofs.«01_k».proof.Proof.KernelIdeal.Value
public import proofs.«01_k».proof.Proof.Mean.Reference
public import Idealize.ShloMosaic.Lib.Layout

@[expose] public section

noncomputable section

namespace Cert.Mean

open Idealize.ShloMosaic Idealize.ShloMosaic.TcCoe
open Cert.KernelIdeal.Run (mate rowSum xOn outAt)

/-- Times 2^-11 is over 2048. -/
theorem scale (x : EReal) : x * Ideal.ofBits .f32 0x3A000000#32 = Ideal.div x (Ideal.ofBits .f32 0x45000000#32) := by
  have h1 : Ideal.ofBits .f32 0x3A000000#32 = ((1 / 2048 : ℝ) : EReal) := by
    simp [Ideal.ofBits, Ideal.ieee, -EReal.coe_mul]; norm_num
  have h2 : Ideal.ofBits .f32 0x45000000#32 = ((2048 : ℝ) : EReal) := by
    simp [Ideal.ofBits, Ideal.ieee, -EReal.coe_mul]; norm_num
  have h0 : ((2048 : ℝ) : EReal) ≠ 0 := by exact_mod_cast (by norm_num : (2048 : ℝ) ≠ 0)
  rw [h1, h2]
  unfold Ideal.div
  rw [if_neg h0, ← EReal.coe_inv, one_div]

/-- A sum over 2048 is the sum over the first 1024 plus the sum over the last 1024. -/
theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The axes that cut `x` have positive sizes. -/
theorem cuts_x : ∀ b, ∀ i ∈ (![[0], [1]] : Fin 2 → List ℕ) b, 0 < [2, 2].getD i 0 := by decide

/-- The axes that cut the result have positive sizes. -/
theorem cuts_out : ∀ b, ∀ i ∈ (![[0], []] : Fin 2 → List ℕ) b, 0 < [2, 2].getD i 0 := by decide

/-- The blocks of `x` tile it. -/
theorem tiles_x : Layout.TilesN ⟨2, ![4096, 1024]⟩ ⟨2, ![8192, 2048]⟩ (fun b => Layout.cutSize [2, 2] ((![[0], [1]] : Fin 2 → List ℕ) b)) := by decide

/-- The blocks of the result tile it. -/
theorem tiles_out : Layout.TilesN ⟨2, ![4096, 1]⟩ ⟨2, ![8192, 1]⟩ (fun b => Layout.cutSize [2, 2] ((![[0], []] : Fin 2 → List ℕ) b)) := by decide

section

variable (m : (ℓ : Loc Cert.KernelIdeal.nD Cert.KernelIdeal.τ Cert.KernelIdeal.sig) → Buf (Elt Ideal) ℓ)
  (X : (⟨2, ![8192, 2048]⟩ : Shape).Idx → EReal)
  (hX : ∀ c : Dev Cert.KernelIdeal.nD, m ((c.tc : Thread Cert.KernelIdeal.nD Cert.KernelIdeal.τ).loc Cert.KernelIdeal.main_arg0)
    = Layout.blockN ⟨2, ![4096, 1024]⟩ ⟨2, ![8192, 2048]⟩ (Layout.meshBlock [2, 2] ![[0], [1]] c cuts_x) X tiles_x)

/-- Device `c`'s block of `x` lies in block row c / 2. -/
theorem place_row (c : Dev Cert.KernelIdeal.nD) : ((Layout.meshBlock [2, 2] ![[0], [1]] c cuts_x) 0).val = c.val / 2 := by revert c; decide
/-- Device `c`'s block of `x` lies in block column c mod 2. -/
theorem place_col (c : Dev Cert.KernelIdeal.nD) : ((Layout.meshBlock [2, 2] ![[0], [1]] c cuts_x) 1).val = c.val % 2 := by revert c; decide
/-- Device `c`'s block of the result is block c / 2. -/
theorem out_row (c : Dev Cert.KernelIdeal.nD) : ((Layout.meshBlock [2, 2] ![[0], []] c cuts_out) 0).val = c.val / 2 := by revert c; decide

/-- The partner has the same block row. -/
theorem mate_row (c : Dev Cert.KernelIdeal.nD) : (mate c).val / 2 = c.val / 2 := by revert c; decide
/-- The partner has the other block column. -/
theorem mate_col (c : Dev Cert.KernelIdeal.nD) : (mate c).val % 2 = 1 - c.val % 2 := by revert c; decide

include hX in
/-- Entry (i, k) of device `c`'s block of `x` in the whole `x`. -/
theorem entry (c : Dev Cert.KernelIdeal.nD) (i : Fin 4096) (k : Fin 1024) (j : Fin 8192) (l : Fin 2048)
    (hj : j.val = c.val / 2 * 4096 + i.val) (hl : l.val = c.val % 2 * 1024 + k.val) : xOn m c (ix2 i k) = X (ix2 j l) := by
  refine (congrFun (hX c) (ix2 i k)).trans ?_
  show X _ = X _
  congr 1; funext a
  fin_cases a
  · refine Fin.ext ?_
    show ((Layout.meshBlock [2, 2] ![[0], [1]] c cuts_x) 0).val * 4096 + i.val = j.val
    rw [place_row, hj]
  · refine Fin.ext ?_
    show ((Layout.meshBlock [2, 2] ![[0], [1]] c cuts_x) 1).val * 1024 + k.val = l.val
    rw [place_col, hl]

include hX in
/-- A device's row sum and its partner's make the whole row's sum. -/
theorem sum_row (c : Dev Cert.KernelIdeal.nD) (i : Fin 4096) (j : Fin 8192) (hj : j.val = c.val / 2 * 4096 + i.val) :
    rowSum m c i + rowSum m (mate c) i = ∑ k, X (ix2 j k) := by
  rw [sum_halves]
  rcases Nat.mod_two_eq_zero_or_one c.val with h | h
  · refine congrArg₂ (· + ·) (Finset.sum_congr rfl fun k _ => entry m X hX c i k j _ hj ?_)
      (Finset.sum_congr rfl fun k _ => entry m X hX (mate c) i k j _ ?_ ?_)
    · show k.val = _; omega
    · rw [mate_row, hj]
    · rw [mate_col]; show 1024 + k.val = _; rw [h]
  · rw [add_comm]
    refine congrArg₂ (· + ·) (Finset.sum_congr rfl fun k _ => entry m X hX (mate c) i k j _ ?_ ?_)
      (Finset.sum_congr rfl fun k _ => entry m X hX c i k j _ hj ?_)
    · rw [mate_row, hj]
    · rw [mate_col]; show k.val = _; rw [h]; omega
    · show 1024 + k.val = _; omega

include hX in
/-- Device `c`'s column is its block of the reference's column. -/
theorem column_eq (c : Dev Cert.KernelIdeal.nD) :
    shapeCast Cert.KernelIdeal.S4096x1 (outAt m c) Cert.KernelIdeal.Gen.shapeCasts_S32x128_S4096x1
      = Layout.blockN ⟨2, ![4096, 1]⟩ ⟨2, ![8192, 1]⟩ (Layout.meshBlock [2, 2] ![[0], []] c cuts_out) (Cert.ReferenceIdeal.Mean.column X) tiles_out := by
  funext y
  obtain ⟨i, rfl⟩ : ∃ i : Fin 4096, y = ix2 i 0 := ⟨y 0, (eq_ix2 y).trans (congrArg (ix2 (y 0)) (Subsingleton.elim (α := Fin 1) _ _))⟩
  have hc : c.val < 4 := c.isLt
  let j : Fin 8192 := ⟨c.val / 2 * 4096 + i.val, by omega⟩
  have e : Layout.blockN ⟨2, ![4096, 1]⟩ ⟨2, ![8192, 1]⟩ (Layout.meshBlock [2, 2] ![[0], []] c cuts_out) (Cert.ReferenceIdeal.Mean.column X) tiles_out (ix2 i 0)
      = Cert.ReferenceIdeal.Mean.column X (ix2 j 0) := by
    show Cert.ReferenceIdeal.Mean.column X _ = _
    congr 1; funext a
    fin_cases a
    · refine Fin.ext ?_
      show ((Layout.meshBlock [2, 2] ![[0], []] c cuts_out) 0).val * 4096 + i.val = c.val / 2 * 4096 + i.val
      rw [out_row]
    · exact Subsingleton.elim (α := Fin 1) _ _
  rw [e, Cert.ReferenceIdeal.Mean.column_apply, Cert.KernelIdeal.Run.column_apply, sum_row m X hX c i j rfl, scale]

end

end Cert.Mean

end
-- ==== Proof.lean ====
/-
# The proof of `Cert.Claim`

Both copies of the kernel run from every memory and leave their argument unchanged and every semaphore at zero, and
so does the reference; and at the ideal instance the devices' columns, put together, are the reference's column.
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.KernelIdeal.Launch
public import proofs.«01_k».proof.Proof.Mean.Equation

@[expose] public section

noncomputable section

namespace Cert.Proof

open Idealize.ShloMosaic Idealize.SL.Sem

/-- The kernel, at extended reals, ends with its argument unchanged and every semaphore at zero. -/
theorem quiescent_kernelIdeal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Run.run_main m g)

/-- The reference, at extended reals, ends with its argument unchanged and every semaphore at zero. -/
theorem quiescent_referenceIdeal : Cert.quiescent_ReferenceIdeal (hReferenceIdeal := Cert.ReferenceIdeal.Gen.facts) := fun m g _ =>
  (θ_run Cert.ReferenceIdeal.defs _ _).mono (fun _ h => ⟨fun c => (h.1 c).2, h.2⟩) (Cert.ReferenceIdeal.Mean.run m g)

/-- The devices' columns are the blocks of the reference's column. -/
theorem algebraic : Cert.algebraic_KernelIdeal_ReferenceIdeal (hKernelIdeal := Cert.KernelIdeal.Gen.facts)
    (hReferenceIdeal := Cert.ReferenceIdeal.Gen.facts) := fun m g m' g' _ hX =>
  ⟨Cert.ReferenceIdeal.Mean.column _,
    (θ_run Cert.KernelIdeal.defs _ _).mono (fun _ h c => ⟨(h.1 c).2.trans (Cert.Mean.column_eq m _ hX c), (h.1 c).1⟩)
      (Cert.KernelIdeal.Run.run_main m g),
    (θ_run Cert.ReferenceIdeal.defs _ _).mono (fun _ h => h.1 0) (Cert.ReferenceIdeal.Mean.run m' g')⟩

/-- Everything claimed. -/
theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
